-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x32x128 : S_.BroadcastsInDim S1x1024x32x128 (![] : Fin 0 → Fin S1x1024x32x128.rank)

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S1x1024x1024 1 × IVec S1024x1024 1 × IVec S1x1024x32x128 1 :=
  let main_cst : FVec F S_ .f32 := constant S_ .f32 0x7F800000#32
  let main_v0 : FVec F S1x1024x1024 .f32 := broadcastInDim S1x1024x1024 ![] bcast_S_S1x1024x1024 main_cst
  let main_v1 : IVec S1x1024x1024 1 := cmpf .olt main_arg0 main_v0
  let main_cst_0 : FVec F S_ .f32 := constant S_ .f32 0xFF800000#32
  let main_v2 : FVec F S1x1024x1024 .f32 := broadcastInDim S1x1024x1024 ![] bcast_S_S1x1024x1024 main_cst_0
  let main_v3 : IVec S1x1024x1024 1 := cmpf .ogt main_arg0 main_v2
  let main_v4 : IVec S1x1024x1024 1 := andi main_v1 main_v3
  let main_cst_1 : FVec F S_ .f32 := constant S_ .f32 0x7F800000#32
  let main_v5 : FVec F S1024x1024 .f32 := broadcastInDim S1024x1024 ![] bcast_S_S1024x1024 main_cst_1
  let main_v6 : IVec S1024x1024 1 := cmpf .olt main_arg1 main_v5
  let main_cst_2 : FVec F S_ .f32 := constant S_ .f32 0xFF800000#32
  let main_v7 : FVec F S1024x1024 .f32 := broadcastInDim S1024x1024 ![] bcast_S_S1024x1024 main_cst_2
  let main_v8 : IVec S1024x1024 1 := cmpf .ogt main_arg1 main_v7
  let main_v9 : IVec S1024x1024 1 := andi main_v6 main_v8
  let main_cst_3 : FVec F S_ .f32 := constant S_ .f32 0x7F800000#32
  let main_v10 : FVec F S1x1024x32x128 .f32 := broadcastInDim S1x1024x32x128 ![] bcast_S_S1x1024x32x128 main_cst_3
  let main_v11 : IVec S1x1024x32x128 1 := cmpf .olt main_arg2 main_v10
  let main_cst_4 : FVec F S_ .f32 := constant S_ .f32 0xFF800000#32
  let main_v12 : FVec F S1x1024x32x128 .f32 := broadcastInDim S1x1024x32x128 ![] bcast_S_S1x1024x32x128 main_cst_4
  let main_v13 : IVec S1x1024x32x128 1 := cmpf .ogt main_arg2 main_v12
  let main_v14 : IVec S1x1024x32x128 1 := andi main_v11 main_v13
  (main_v4, main_v9, main_v14)
-- ==== Pre_finite_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x32x128 : S_.BroadcastsInDim S1x1024x32x128 (![] : Fin 0 → Fin S1x1024x32x128.rank)

variable [Facts]

def fn {F : FTy → Type} [FloatOps F] (main_arg0 : FVec F S1x1024x1024 .f32) (main_arg1 : FVec F S1024x4096 .f32) (main_arg2 : FVec F S1x1024x32x128 .f32) (main_arg3 : FVec F S1x1024x32x128 .f32) (main_arg4 : FVec F S4096x1024 .f32) : IVec S1x1024x1024 1 × IVec S1024x4096 1 × IVec S1x1024x32x128 1 :=
  let main_cst : FVec F S_ .f32 := constant S_ .f32 0x7F800000#32
  let main_v0 : FVec F S1x1024x1024 .f32 := broadcastInDim S1x1024x1024 ![] bcast_S_S1x1024x1024 main_cst
  let main_v1 : IVec S1x1024x1024 1 := cmpf .olt main_arg0 main_v0
  let main_cst_0 : FVec F S_ .f32 := constant S_ .f32 0xFF800000#32
  let main_v2 : FVec F S1x1024x1024 .f32 := broadcastInDim S1x1024x1024 ![] bcast_S_S1x1024x1024 main_cst_0
  let main_v3 : IVec S1x1024x1024 1 := cmpf .ogt main_arg0 main_v2
  let main_v4 : IVec S1x1024x1024 1 := andi main_v1 main_v3
  let main_cst_1 : FVec F S_ .f32 := constant S_ .f32 0x7F800000#32
  let main_v5 : FVec F S1024x4096 .f32 := broadcastInDim S1024x4096 ![] bcast_S_S1024x4096 main_cst_1
  let main_v6 : IVec S1024x4096 1 := cmpf .olt main_arg1 main_v5
  let main_cst_2 : FVec F S_ .f32 := constant S_ .f32 0xFF800000#32
  let main_v7 : FVec F S1024x4096 .f32 := broadcastInDim S1024x4096 ![] bcast_S_S1024x4096 main_cst_2
  let main_v8 : IVec S1024x4096 1 := cmpf .ogt main_arg1 main_v7
  let main_v9 : IVec S1024x4096 1 := andi main_v6 main_v8
  let main_cst_3 : FVec F S_ .f32 := constant S_ .f32 0x7F800000#32
  let main_v10 : FVec F S1x1024x32x128 .f32 := broadcastInDim S1x1024x32x128 ![] bcast_S_S1x1024x32x128 main_cst_3
  let main_v11 : IVec S1x1024x32x128 1 := cmpf .olt main_arg2 main_v10
  let main_cst_4 : FVec F S_ .f32 := constant S_ .f32 0xFF800000#32
  let main_v12 : FVec F S1x1024x32x128 .f32 := broadcastInDim S1x1024x32x128 ![] bcast_S_S1x1024x32x128 main_cst_4
  let main_v13 : IVec S1x1024x32x128 1 := cmpf .ogt main_arg2 main_v12
  let main_v14 : IVec S1x1024x32x128 1 := andi main_v11 main_v13
  (main_v4, main_v9, main_v14)
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩
abbrev S1024x32x128 : Shape := ⟨3, ![1024, 32, 128]⟩
abbrev S1024x8x128 : Shape := ⟨3, ![1024, 8, 128]⟩
abbrev S8x128x1024 : Shape := ⟨3, ![8, 128, 1024]⟩
abbrev S12x128x1024 : Shape := ⟨3, ![12, 128, 1024]⟩
abbrev S12 : Shape := ⟨1, ![12]⟩
abbrev S256x1024 : Shape := ⟨2, ![256, 1024]⟩
abbrev S256x1 : Shape := ⟨2, ![256, 1]⟩
abbrev S256x512 : Shape := ⟨2, ![256, 512]⟩
abbrev S128x512 : Shape := ⟨2, ![128, 512]⟩
abbrev S128x1024 : Shape := ⟨2, ![128, 1024]⟩
abbrev S128x1 : Shape := ⟨2, ![128, 1]⟩
abbrev S256x128 : Shape := ⟨2, ![256, 128]⟩
abbrev S512x128 : Shape := ⟨2, ![512, 128]⟩
abbrev S128x128 : Shape := ⟨2, ![128, 128]⟩
abbrev S256 : Shape := ⟨1, ![256]⟩
abbrev S128 : Shape := ⟨1, ![128]⟩
abbrev S1x128x1024 : Shape := ⟨3, ![1, 128, 1024]⟩
abbrev S1 : Shape := ⟨1, ![1]⟩

abbrev nBuf : Space → Nat
  | .hbm => 43
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x32x128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .f32⟩
  | .hbm, ⟨23, _⟩ => ⟨S1024x32x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .f32⟩
  | .hbm, ⟨34, _⟩ => ⟨S_, .f32⟩
  | .hbm, ⟨35, _⟩ => ⟨S1024x8x128, .f32⟩
  | .hbm, ⟨36, _⟩ => ⟨S1024x8x128, .f32⟩
  | .hbm, ⟨37, _⟩ => ⟨S1024x8x128, .bf16⟩
  | .hbm, ⟨38, _⟩ => ⟨S1024x1024, .bf16⟩
  | .hbm, ⟨39, _⟩ => ⟨S1024x8x128, .bf16⟩
  | .hbm, ⟨40, _⟩ => ⟨S1024x1024, .bf16⟩
  | .hbm, ⟨41, _⟩ => ⟨S1024x1024, .f32⟩
  | .hbm, ⟨42, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128x1024, .bf16⟩
  | .local _ .vmem, ⟨7, _⟩ => ⟨S12x128x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v78 : BitVec 32 := Scalar.subi v2 c0_i32_30
  let c4_i32_31 : BitVec 32 := 4#32
  let v79 : BitVec 32 := Scalar.addi v78 c4_i32_31
  let c4_i32_32 : BitVec 32 := 4#32
  let v80 : BitVec 32 := Scalar.remsi v79 c4_i32_32
  let c128_i32 : BitVec 32 := 128#32
  let v84 : BitVec 32 := Scalar.muli v80 c128_i32
  let v86 : Index := Scalar.indexCast v84
  let c0_37 : Index := 0#32
  ![v86.toNat, 0]
def k0_off2 (d0 : Dev nD) (c0_i32_33 : BitVec 32) : Fin 2 → Nat :=
  let c4_i32_35 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c0_i32_33
  let c4_i32_34 : BitVec 32 := 4#32
  let v82 : BitVec 32 := Scalar.remsi v81 c4_i32_34
  let v83 : BitVec 32 := Scalar.addi c4_i32_35 v82
  let c128_i32_36 : BitVec 32 := 128#32
  let v85 : BitVec 32 := Scalar.muli v83 c128_i32_36
  let v93 : Index := Scalar.indexCast v85
  let c0_40 : Index := 0#32
  ![v93.toNat, 0]
def k0_off3 (d0 : Dev nD) (c0_i32_30 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v78 : BitVec 32 := Scalar.subi v2 c0_i32_30
  let c4_i32_31 : BitVec 32 := 4#32
  let v79 : BitVec 32 := Scalar.addi v78 c4_i32_31
  let c4_i32_32 : BitVec 32 := 4#32
  let v80 : BitVec 32 := Scalar.remsi v79 c4_i32_32
  let v519 : Index := Scalar.indexCast v80
  let c0_218 : Index := 0#32
  let c0_219 : Index := 0#32
  ![v519.toNat, 0, 0]
def k0_off4 (d0 : Dev nD) (c0_i32_33 : BitVec 32) : Fin 3 → Nat :=
  let c4_i32_35 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c0_i32_33
  let c4_i32_34 : BitVec 32 := 4#32
  let v82 : BitVec 32 := Scalar.remsi v81 c4_i32_34
  let v83 : BitVec 32 := Scalar.addi c4_i32_35 v82
  let v525 : Index := Scalar.indexCast v83
  let c0_220 : Index := 0#32
  let c0_221 : Index := 0#32
  ![v525.toNat, 0, 0]
def k0_off5 (d0 : Dev nD) (c0_i32_222 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v529 : BitVec 32 := Scalar.subi v2 c0_i32_222
  let c4_i32_223 : BitVec 32 := 4#32
  let v530 : BitVec 32 := Scalar.addi v529 c4_i32_223
  let c4_i32_224 : BitVec 32 := 4#32
  let v531 : BitVec 32 := Scalar.remsi v530 c4_i32_224
  let c0_i32_235 : BitVec 32 := 0#32
  let c0_i32_236 : BitVec 32 := 0#32
  ![v531.toNat, 0, 0]
def k0_dev3 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_231 : BitVec 32 := 1#32
  let v535 : BitVec 32 := Scalar.muli v7 c1_i32_231
  let v536 : BitVec 32 := Scalar.addi c0_i32_232 v535
  v536.toNat
def k0_off6 (d0 : Dev nD) (c0_i32_225 : BitVec 32) : Fin 3 → Nat :=
  let c4_i32_227 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v532 : BitVec 32 := Scalar.addi v2 c0_i32_225
  let c4_i32_226 : BitVec 32 := 4#32
  let v533 : BitVec 32 := Scalar.remsi v532 c4_i32_226
  let v534 : BitVec 32 := Scalar.addi c4_i32_227 v533
  let c0_i32_243 : BitVec 32 := 0#32
  let c0_i32_244 : BitVec 32 := 0#32
  ![v534.toNat, 0, 0]
def k0_dev4 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_239 : BitVec 32 := 1#32
  let v545 : BitVec 32 := Scalar.muli v5 c1_i32_239
  let v546 : BitVec 32 := Scalar.addi c0_i32_240 v545
  v546.toNat
def k0_dev5 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_492 : BitVec 32 := 1#32
  let v1054 : BitVec 32 := Scalar.muli v7 c1_i32_492
  let v1055 : BitVec 32 := Scalar.addi c0_i32_493 v1054
  v1055.toNat
def k0_dev6 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_501 : BitVec 32 := 1#32
  let v1064 : BitVec 32 := Scalar.muli v5 c1_i32_501
  let v1065 : BitVec 32 := Scalar.addi c0_i32_502 v1064
  v1065.toNat
def k0_dev7 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_753 : BitVec 32 := 1#32
  let v1573 : BitVec 32 := Scalar.muli v7 c1_i32_753
  let v1574 : BitVec 32 := Scalar.addi c0_i32_754 v1573
  v1574.toNat
def k0_dev8 (d0 : Dev nD) : Nat :=
  let c0_i32_762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_761 : BitVec 32 := 1#32
  let v1583 : BitVec 32 := Scalar.muli v5 c1_i32_761
  let v1584 : BitVec 32 := Scalar.addi c0_i32_762 v1583
  v1584.toNat
def k0_dev9 (d0 : Dev nD) : Nat :=
  let c0_i32_1013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1012 : BitVec 32 := 1#32
  let v2092 : BitVec 32 := Scalar.muli v7 c1_i32_1012
  let v2093 : BitVec 32 := Scalar.addi c0_i32_1013 v2092
  v2093.toNat
def k0_dev10 (d0 : Dev nD) : Nat :=
  let c0_i32_1021 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1020 : BitVec 32 := 1#32
  let v2102 : BitVec 32 := Scalar.muli v5 c1_i32_1020
  let v2103 : BitVec 32 := Scalar.addi c0_i32_1021 v2102
  v2103.toNat
def k0_dev11 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1029 : BitVec 32 := 1#32
  let v2112 : BitVec 32 := Scalar.muli v7 c1_i32_1029
  let v2113 : BitVec 32 := Scalar.addi c0_i32_1030 v2112
  v2113.toNat
def k0_dev12 (d0 : Dev nD) : Nat :=
  let c0_i32_1038 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1037 : BitVec 32 := 1#32
  let v2122 : BitVec 32 := Scalar.muli v5 c1_i32_1037
  let v2123 : BitVec 32 := Scalar.addi c0_i32_1038 v2122
  v2123.toNat
def k0_dev13 (d0 : Dev nD) : Nat :=
  let c0_i32_1073 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1072 : BitVec 32 := 1#32
  let v2162 : BitVec 32 := Scalar.muli v7 c1_i32_1072
  let v2163 : BitVec 32 := Scalar.addi c0_i32_1073 v2162
  v2163.toNat
def k0_dev14 (d0 : Dev nD) : Nat :=
  let c0_i32_1082 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1081 : BitVec 32 := 1#32
  let v2172 : BitVec 32 := Scalar.muli v5 c1_i32_1081
  let v2173 : BitVec 32 := Scalar.addi c0_i32_1082 v2172
  v2173.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1089 : BitVec 32 := 128#32
  let v2185 : BitVec 32 := Scalar.muli v2 c128_i32_1089
  let v2186 : Index := Scalar.indexCast v2185
  let c0_1090 : Index := 0#32
  ![v2186.toNat, 0]
def k0_off8 (d0 : Dev nD) : Fin 2 → Nat :=
  let c4_i32_1091 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2188 : BitVec 32 := Scalar.addi c4_i32_1091 v2
  let c128_i32_1094 : BitVec 32 := 128#32
  let v2192 : BitVec 32 := Scalar.muli v2188 c128_i32_1094
  let v2193 : Index := Scalar.indexCast v2192
  let c0_1095 : Index := 0#32
  ![v2193.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1114 : BitVec 32 := 2#32
  let v2211 : BitVec 32 := Scalar.addi v2 c2_i32_1114
  let c4_i32_1115 : BitVec 32 := 4#32
  let v2212 : BitVec 32 := Scalar.remsi v2211 c4_i32_1115
  let c128_i32_1118 : BitVec 32 := 128#32
  let v2216 : BitVec 32 := Scalar.muli v2212 c128_i32_1118
  let v2217 : Index := Scalar.indexCast v2216
  let c0_1119 : Index := 0#32
  ![v2217.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x32x1024x1024, .f32⟩
  | .hbm, ⟨51, _⟩ => ⟨S_, .f32⟩
  | .hbm, ⟨52, _⟩ => ⟨S1x32x1024x1024, .f32⟩
  | .hbm, ⟨53, _⟩ => ⟨S1x32x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x32x1024x1024, .i1⟩
  | .hbm, ⟨58, _⟩ => ⟨S1x32x1024x1024, .f32⟩
  | .hbm, ⟨59, _⟩ => ⟨S1x32x1024x1024, .f32⟩
  | .hbm, ⟨60, _⟩ => ⟨S_, .f32⟩
  | .hbm, ⟨61, _⟩ => ⟨S1x32x1024, .f32⟩
  | .hbm, ⟨62, _⟩ => ⟨S1x32x1024x1, .f32⟩
  | .hbm, ⟨63, _⟩ => ⟨S1x32x1024x1024, .f32⟩
  | .hbm, ⟨64, _⟩ => ⟨S1x32x1024x1024, .f32⟩
  | .hbm, ⟨65, _⟩ => ⟨S1x32x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x32x1024, .f32⟩
  | .hbm, ⟨71, _⟩ => ⟨S1x32x1024x1, .f32⟩
  | .hbm, ⟨72, _⟩ => ⟨S_, .f32⟩
  | .hbm, ⟨73, _⟩ => ⟨S_, .f32⟩
  | .hbm, ⟨74, _⟩ => ⟨S1x32x1024x1, .i1⟩
  | .hbm, ⟨75, _⟩ => ⟨S1x32x1024x1, .f32⟩
  | .hbm, ⟨76, _⟩ => ⟨S1x32x1024x1, .f32⟩
  | .hbm, ⟨77, _⟩ => ⟨S1x32x1024x1024, .f32⟩
  | .hbm, ⟨78, _⟩ => ⟨S1x32x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x32x1024x1024, .i1⟩
  | .hbm, ⟨83, _⟩ => ⟨S1x32x1024x1024, .f32⟩
  | .hbm, ⟨84, _⟩ => ⟨S1x32x1024x1024, .f32⟩
  | .hbm, ⟨85, _⟩ => ⟨S1x32x128x1024, .f32⟩
  | .hbm, ⟨86, _⟩ => ⟨S1x1024x32x128, .f32⟩
  | .hbm, ⟨87, _⟩ => ⟨S1x1024x4096, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]

def κ : String → Option EReal := fun
  | "mask" => some ⊥
  | _ => none
-- ==== Proof.Base.lean ====
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.RegionTalk
public import Idealize.ShloMosaic.Lib.Tactic
public import Idealize.ShloMosaic.Lib.VecWindow

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state of the rounds: two duties per round, told apart by a Boolean. -/
abbrev UB : Type := URounds (GSem nD τ sig) Bool
/-- The whole ghost state: the pipeline's and the rounds'. -/
abbrev UU : Type := UR sig nD τ × UB

/-! ## The body's buffers -/

/-- The staged tokens. -/
abbrev xM : Memref sig .tc .vmem S1024x1024 .f32 := Memref.whole cc0_stg0_0
/-- The staged query weights. -/
abbrev wqM : Memref sig .tc .vmem S1024x1024 .f32 := Memref.whole cc0_stg1_0
/-- The staged keys, scaled. -/
abbrev kM : Memref sig .tc .vmem S1024x1024 .bf16 := Memref.whole cc0_stg2_0
/-- The staged values. -/
abbrev vM : Memref sig .tc .vmem S1024x1024 .bf16 := Memref.whole cc0_stg3_0
/-- The staged output weights. -/
abbrev woM : Memref sig .tc .vmem S1024x1024 .f32 := Memref.whole cc0_stg4_0
/-- The staged result. -/
abbrev oM : Memref sig .tc .vmem S1024x1024 .f32 := Memref.whole cc0_stg5_0
/-- The eight chunks of partial sums. -/
abbrev accM : Memref sig .tc .vmem S8x128x1024 .bf16 := Memref.whole cc0_scratch0
/-- The twelve slots that the neighbours' copies land in. -/
abbrev comM : Memref sig .tc .vmem S12x128x1024 .bf16 := Memref.whole cc0_scratch1
/-- The heads' results of a pair of chunks. -/
abbrev ctxM : Memref sig .tc .vmem S256x1024 .bf16 := Memref.whole cc0_scratch4
/-- The tokens of a pair of chunks. -/
abbrev xpM : Memref sig .tc .vmem S256x1024 .bf16 := Memref.whole cc0_scratch5
/-- The query weights, rounded. -/
abbrev wqbM : Memref sig .tc .vmem S1024x1024 .bf16 := Memref.whole cc0_scratch6
/-- The output weights, rounded. -/
abbrev wobM : Memref sig .tc .vmem S1024x1024 .bf16 := Memref.whole cc0_scratch7

/-- A buffer held whole by one device at a vector's contents. -/
abbrev at_ (c : Dev nD) {s : Shape} {e : EltTy} (m : Memref sig .tc .vmem s e) (q : PosShare TreeShare) (X : Vec F s e) :
    sProp (MT nD τ sig Unit (Elt F) ℕ UU ℕ) :=
  iprop(m.view.loc (c : Thread nD τ) ↦[m.view.set]{q} m.view.rep X)

/-- A buffer held whole by one device at some contents. -/
abbrev any_ (c : Dev nD) {s : Shape} {e : EltTy} (m : Memref sig .tc .vmem s e) :
    sProp (MT nD τ sig Unit (Elt F) ℕ UU ℕ) :=
  iprop(∃ f, m.view.loc (c : Thread nD τ) ↦[m.view.set]{fullShare} f)

end Cert.KernelIdealProof
-- ==== Proof.Vals.lean ====
module

public import proofs.«01_k».proof.Proof.Base

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # What one device computes, as functions of its blocks -/

/-- The five blocks one device's body reads. -/
structure Blocks (F : FTy → Type) where
  /-- the token rows -/
  x : Vec F S1024x1024 .f32
  /-- the device's columns of the query projection -/
  wq : Vec F S1024x1024 .f32
  /-- the scaled keys of the device's heads -/
  k : Vec F S1024x1024 .bf16
  /-- the values of the device's heads -/
  v : Vec F S1024x1024 .bf16
  /-- the device's rows of the output projection -/
  wo : Vec F S1024x1024 .f32

/-- A device's number, as the word the program computes from it. -/
def place (c : Dev nD) : BitVec 32 := Scalar.remsi (Scalar.divsi (Dev.word c) 1#32) 4#32

/-- The chunk of the upper half a device works on in round `j`: its own place less `j`, around the ring. -/
def cwW (v2 : BitVec 32) (j : BitVec 32) : BitVec 32 := Scalar.remsi (Scalar.addi (Scalar.subi v2 j) 4#32) 4#32
/-- The chunk of the lower half a device works on in round `j`: its own place plus `j`, around the ring, past the first four. -/
def ccwW (v2 : BitVec 32) (j : BitVec 32) : BitVec 32 := Scalar.addi 4#32 (Scalar.remsi (Scalar.addi v2 j) 4#32)

/-- The quotient by 64, rounded down, as the program spells it. -/
def floor64 {s : Shape} (a : IVec s 32) : IVec s 32 :=
  select (andi (cmpi .ne (subi (extui 32 (cmpi .sgt a (broadcast s 0#32)) natLt_1_32) (extui 32 (cmpi .slt a (broadcast s 0#32)) natLt_1_32))
      (broadcast s (Scalar.subi (Scalar.extui (Scalar.cmpi .sgt 64#32 0#32)) (Scalar.extui (Scalar.cmpi .slt 64#32 0#32)))))
      (cmpi .ne (remsi a (broadcast s 64#32)) (broadcast s 0#32)))
    (subi (divsi a (broadcast s 64#32)) (broadcast s 1#32)) (divsi a (broadcast s 64#32))

/-- The rows' own numbers 0 … 255. -/
def iota0 : IVec S256x1 32 := iota .tc S256x1 32 [0] iota_S256x1_d0_w32

/-- The token a row of the pair stands for. -/
def rowTok (v2 : BitVec 32) (j : BitVec 32) : IVec S256x1 32 :=
  addi iota0 (select (cmpi .slt iota0 (broadcast S256x1 128#32)) (broadcast S256x1 (Scalar.muli (cwW v2 j) 128#32))
    (broadcast S256x1 (Scalar.subi (Scalar.muli (ccwW v2 j) 128#32) 128#32)))

/-- The block of the first 512 keys. -/
def colLo : IVec S256x512 32 := floor64 (iota .tc S256x512 32 [1] iota_S256x512_d1_w32)
/-- The block, counted from the ninth on, of the last 512 keys. -/
def colHi0 : IVec S128x512 32 := floor64 (iota .tc S128x512 32 [1] iota_S128x512_d1_w32)
/-- The block of the last 512 keys. -/
def colHi : IVec S128x512 32 := addi (broadcast S128x512 8#32) colHi0

/-- The mask of the first 512 keys: nothing where the key's block is not past the row's, the mask's constant elsewhere. -/
def bias1 (v2 : BitVec 32) (j : BitVec 32) : FVec F S256x512 .f32 :=
  select (cmpi .sle colLo (broadcastTo S256x512 (floor64 (rowTok v2 j)) broadcasts_S256x1_S256x512))
    (broadcast S256x512 (Scalar.ofBits .f32 0x00000000#32)) (broadcast S256x512 (Named.named κ "mask" 0xCE6E6B28#32))
/-- The mask of the last 512 keys, for the pair's lower 128 rows. -/
def bias2 (v2 : BitVec 32) (j : BitVec 32) : FVec F S128x512 .f32 :=
  select (cmpi .sle colHi (broadcastTo S128x512 (extractStridedSlice S128x1 ![128, 0] (floor64 (rowTok v2 j)) slices_S256x1_o128_0_S128x1)
      broadcasts_S128x1_S128x512))
    (broadcast S128x512 (Scalar.ofBits .f32 0x00000000#32)) (broadcast S128x512 (Named.named κ "mask" 0xCE6E6B28#32))

/-! ## One head -/

section Head

variable (q : FVec F S256x1024 .bf16) (k v : Vec F S1024x1024 .bf16) (b1 : FVec F S256x512 .f32) (b2 : FVec F S128x512 .f32) (h : Fin 8)

/-- A head's columns lie within the queries. -/
theorem slices_head : ∀ h : Fin 8, S256x1024.Slices ![0, 128 * h.val] S256x128 := by decide
/-- A head's columns of the lower keys lie within the keys. -/
theorem inb_lo : ∀ h : Fin 8, ∀ a, (![0, 128 * h.val] : Fin 2 → Nat) a + S512x128.size a ≤ S1024x1024.size a := by decide
/-- A head's columns of the upper keys lie within the keys. -/
theorem inb_hi : ∀ h : Fin 8, ∀ a, (![512, 128 * h.val] : Fin 2 → Nat) a + S512x128.size a ≤ S1024x1024.size a := by decide
/-- The upper half of a head's results lies within their buffer. -/
theorem inb_ctxA : ∀ h : Fin 8, ∀ a, (![0, 128 * h.val] : Fin 2 → Nat) a + S128x128.size a ≤ S256x1024.size a := by decide
/-- The lower half of a head's results lies within their buffer. -/
theorem inb_ctxB : ∀ h : Fin 8, ∀ a, (![128, 128 * h.val] : Fin 2 → Nat) a + S128x128.size a ≤ S256x1024.size a := by decide

/-- The queries of one head. -/
def qHead : FVec F S256x128 .bf16 := extractStridedSlice S256x128 ![0, 128 * h.val] q (slices_head h)

/-- The first 512 rows of one head's columns of a buffer of 1024 rows. -/
def loHead (m : Memref sig .tc .vmem S1024x1024 .bf16) (k : Vec F S1024x1024 .bf16) : FVec F S512x128 .bf16 :=
  shapeCast S512x128 (View.readAt (Elt F) m.view (Rect.unit (s := S1024x1024) ![0, 128 * h.val] S512x128.size (inb_lo h)).toLoadRect (m.view.rep k))
    shapeCasts_S512x128_S512x128
/-- The last 512 rows of one head's columns. -/
def hiHead (m : Memref sig .tc .vmem S1024x1024 .bf16) (k : Vec F S1024x1024 .bf16) : FVec F S512x128 .bf16 :=
  shapeCast S512x128 (View.readAt (Elt F) m.view (Rect.unit (s := S1024x1024) ![512, 128 * h.val] S512x128.size (inb_hi h)).toLoadRect (m.view.rep k))
    shapeCasts_S512x128_S512x128

/-- The weights, not yet normalised, over the first 512 keys. -/
def wLo : FVec F S256x512 .f32 :=
  exp (addf (matmul dot_S256x128_S512x128_S256x512_1_1_0_0_n_n none (qHead q h) (loHead h kM k) (constant S256x512 .f32 0x00000000#32)) b1)
/-- The weights, not yet normalised, of the lower 128 rows over the last 512 keys. -/
def wHi : FVec F S128x512 .f32 :=
  exp (addf (matmul dot_S128x128_S512x128_S128x512_1_1_0_0_n_n none
    (extractStridedSlice S128x128 ![128, 0] (qHead q h) slices_S256x128_o128_0_S128x128) (hiHead h kM k) (constant S128x512 .f32 0x00000000#32)) b2)

/-- The weights' sums over the first 512 keys. -/
def sLo : FVec F S256x1 .f32 :=
  shapeCast S256x1 (multiReduction .add [1] S256 (wLo q k b1 h) 0x00000000#32 reduces_S256x512_S256 (.inl rfl) rfl) shapeCasts_S256_S256x1
/-- The weights' sums over the last 512 keys. -/
def sHi : FVec F S128x1 .f32 :=
  shapeCast S128x1 (multiReduction .add [1] S128 (wHi q k b2 h) 0x00000000#32 reduces_S128x512_S128 (.inl rfl) rfl) shapeCasts_S128_S128x1
/-- The weighted values over the first 512 keys. -/
def cLo : FVec F S256x128 .f32 :=
  matmul dot_S256x512_S512x128_S256x128_1_0_0_1_n_n none (truncf .bf16 (wLo q k b1 h) bitsLt_bf16_f32) (loHead h vM v) (constant S256x128 .f32 0x00000000#32)
/-- The weighted values over the last 512 keys. -/
def cHi : FVec F S128x128 .f32 :=
  matmul dot_S128x512_S512x128_S128x128_1_0_0_1_n_n none (truncf .bf16 (wHi q k b2 h) bitsLt_bf16_f32) (hiHead h vM v) (constant S128x128 .f32 0x00000000#32)

/-- One head's result on the pair's upper 128 rows: the first 512 keys only. -/
def headA : FVec F S128x128 .bf16 :=
  shapeCast S128x128 (truncf .bf16 (mulf (extractStridedSlice S128x128 ![0, 0] (cLo q k v b1 h) slices_S256x128_o0_0_S128x128)
    (broadcastTo S128x128 (divf (broadcast S128x1 (Scalar.ofBits .f32 0x3F800000#32)) (extractStridedSlice S128x1 ![0, 0] (sLo q k b1 h) slices_S256x1_o0_0_S128x1))
      broadcasts_S128x1_S128x128)) bitsLt_bf16_f32) shapeCasts_S128x128_S128x128
/-- One head's result on the pair's lower 128 rows: all the keys. -/
def headB : FVec F S128x128 .bf16 :=
  shapeCast S128x128 (truncf .bf16 (mulf (addf (extractStridedSlice S128x128 ![128, 0] (cLo q k v b1 h) slices_S256x128_o128_0_S128x128) (cHi q k v b2 h))
    (broadcastTo S128x128 (divf (broadcast S128x1 (Scalar.ofBits .f32 0x3F800000#32))
        (addf (extractStridedSlice S128x1 ![128, 0] (sLo q k b1 h) slices_S256x1_o128_0_S128x1) (sHi q k b2 h)))
      broadcasts_S128x1_S128x128)) bitsLt_bf16_f32) shapeCasts_S128x128_S128x128

/-- The two pieces one head writes of the pair's heads' results. -/
def headP : List (View.Piece (Elt F) S256x1024 .bf16) :=
  [⟨Rect.unit (s := S256x1024) ![128, 128 * h.val] S128x128.size (inb_ctxB h), headB q k v b1 b2 h⟩,
   ⟨Rect.unit (s := S256x1024) ![0, 128 * h.val] S128x128.size (inb_ctxA h), headA q k v b1 h⟩]

end Head

/-- All the heads' pieces, the last written first. -/
def ctxP (q : FVec F S256x1024 .bf16) (k v : Vec F S1024x1024 .bf16) (b1 : FVec F S256x512 .f32) (b2 : FVec F S128x512 .f32) :
    List (View.Piece (Elt F) S256x1024 .bf16) :=
  headP q k v b1 b2 7 ++ (headP q k v b1 b2 6 ++ (headP q k v b1 b2 5 ++ (headP q k v b1 b2 4 ++ (headP q k v b1 b2 3 ++ (headP q k v b1 b2 2
    ++ (headP q k v b1 b2 1 ++ headP q k v b1 b2 0))))))

/-! ## One pair of chunks -/

/-- The upper chunk's rows. -/
def xTop (c : Dev nD) (j : Fin 4) (x : Vec F S1024x1024 .f32) : FVec F S128x1024 .bf16 :=
  k0_pay7 (View.readAt (Elt F) xM.view (Rect.unit (s := S1024x1024) (k0_off1 c (BitVec.ofNat 32 j.val)) S128x1024.size (k0_off1_inb c j)).toLoadRect (xM.view.rep x))
/-- The lower chunk's rows. -/
def xBot (c : Dev nD) (j : Fin 4) (x : Vec F S1024x1024 .f32) : FVec F S128x1024 .bf16 :=
  k0_pay8 (View.readAt (Elt F) xM.view (Rect.unit (s := S1024x1024) (k0_off2 c (BitVec.ofNat 32 j.val)) S128x1024.size (k0_off2_inb c j)).toLoadRect (xM.view.rep x))
/-- The two chunks' pieces of the pair's rows. -/
def xpP (c : Dev nD) (j : Fin 4) (x : Vec F S1024x1024 .f32) : List (View.Piece (Elt F) S256x1024 .bf16) :=
  [⟨Rect.unit (s := S256x1024) ![128, 0] S128x1024.size inb_S256x1024_S128x1024_128_0, xBot c j x⟩,
   ⟨Rect.unit (s := S256x1024) ![0, 0] S128x1024.size inb_S256x1024_S128x1024_0_0, xTop c j x⟩]
/-- A buffer of 1024 rows and columns read whole. -/
def whole (m : Memref sig .tc .vmem S1024x1024 .bf16) (w : Vec F S1024x1024 .bf16) : Vec F S1024x1024 .bf16 :=
  View.readAt (Elt F) m.view (Rect.unit (s := S1024x1024) ![0, 0] S1024x1024.size inb_S1024x1024_S1024x1024_0_0).toLoadRect (m.view.rep w)
/-- The pair's queries, all heads. -/
def qPair (c : Dev nD) (j : Fin 4) (x : Vec F S1024x1024 .f32) (wq : Vec F S1024x1024 .bf16) : FVec F S256x1024 .bf16 :=
  truncf .bf16 (matmul dot_S256x1024_S1024x1024_S256x1024_1_0_0_1_n_n none
    (xpM.view.readCov (xpP c j x) (Rect.unit (s := S256x1024) ![0, 0] S256x1024.size inb_S256x1024_S256x1024_0_0).toLoadRect) (whole wqbM wq)
    (constant S256x1024 .f32 0x00000000#32)) bitsLt_bf16_f32

/-- The pair's product with the output projection. -/
def oPair (c : Dev nD) (j : Fin 4) (x : Vec F S1024x1024 .f32) (wq k v wo : Vec F S1024x1024 .bf16) : FVec F S256x1024 .f32 :=
  matmul dot_S256x1024_S1024x1024_S256x1024_1_0_0_1_n_n none
    (ctxM.view.readCov (ctxP (qPair c j x wq) k v (bias1 (place c) (BitVec.ofNat 32 j.val)) (bias2 (place c) (BitVec.ofNat 32 j.val)))
      (Rect.unit (s := S256x1024) ![0, 0] S256x1024.size inb_S256x1024_S256x1024_0_0).toLoadRect) (whole wobM wo) (constant S256x1024 .f32 0x00000000#32)

/-- The upper chunk of the pair's product. -/
def oTop (o : FVec F S256x1024 .f32) : FVec F S128x1024 .bf16 :=
  truncf .bf16 (extractStridedSlice S128x1024 ![0, 0] o slices_S256x1024_o0_0_S128x1024) bitsLt_bf16_f32
/-- The lower chunk of the pair's product. -/
def oBot (o : FVec F S256x1024 .f32) : FVec F S128x1024 .bf16 :=
  truncf .bf16 (extractStridedSlice S128x1024 ![128, 0] o slices_S256x1024_o128_0_S128x1024) bitsLt_bf16_f32

/-- The query projection rounded once for the whole body. -/
def wqB (b : Blocks F) : Vec F S1024x1024 .bf16 :=
  k0_pay1 (View.readAt (Elt F) wqM.view (Rect.unit (s := S1024x1024) ![0, 0] S1024x1024.size inb_S1024x1024_S1024x1024_0_0).toLoadRect (wqM.view.rep b.wq))
/-- The output projection rounded once for the whole body. -/
def woB (b : Blocks F) : Vec F S1024x1024 .bf16 :=
  k0_pay2 (View.readAt (Elt F) woM.view (Rect.unit (s := S1024x1024) ![0, 0] S1024x1024.size inb_S1024x1024_S1024x1024_0_0).toLoadRect (woM.view.rep b.wo))

/-- The upper chunk of round `j` on one device: its heads' share of those 128 rows of the result. -/
def PT (I : Dev nD → Blocks F) (c : Dev nD) (j : Fin 4) : FVec F S128x1024 .bf16 :=
  oTop (oPair c j (I c).x (wqB (I c)) (I c).k (I c).v (woB (I c)))
/-- The lower chunk of round `j` on one device. -/
def PB (I : Dev nD → Blocks F) (c : Dev nD) (j : Fin 4) : FVec F S128x1024 .bf16 :=
  oBot (oPair c j (I c).x (wqB (I c)) (I c).k (I c).v (woB (I c)))

/-- The device to the right around the ring. -/
def rt (c : Dev nD) : Dev nD := ⟨(c.val + 1) % 4, Nat.mod_lt _ (by decide)⟩
/-- The device to the left around the ring. -/
def lf (c : Dev nD) : Dev nD := ⟨(c.val + 3) % 4, Nat.mod_lt _ (by decide)⟩

/-- The partial sums running to the right: a device's own share on top of what its left neighbour had one hop before. -/
def A (I : Dev nD → Blocks F) : Fin 4 → Dev nD → FVec F S128x1024 .bf16
  | 0, c => PT I c 0
  | 1, c => addf (PT I c 1) (PT I (lf c) 0)
  | 2, c => addf (PT I c 2) (addf (PT I (lf c) 1) (PT I (lf (lf c)) 0))
  | 3, c => addf (PT I c 3) (addf (PT I (lf c) 2) (addf (PT I (lf (lf c)) 1) (PT I (lf (lf (lf c))) 0)))
/-- The partial sums running to the left. -/
def B (I : Dev nD → Blocks F) : Fin 4 → Dev nD → FVec F S128x1024 .bf16
  | 0, c => PB I c 0
  | 1, c => addf (PB I c 1) (PB I (rt c) 0)
  | 2, c => addf (PB I c 2) (addf (PB I (rt c) 1) (PB I (rt (rt c)) 0))
  | 3, c => addf (PB I c 3) (addf (PB I (rt c) 2) (addf (PB I (rt (rt c)) 1) (PB I (rt (rt (rt c))) 0)))

end Cert.KernelIdealProof
-- ==== Proof.Slots.lean ====
module

public import proofs.«01_k».proof.Proof.Vals
public import Idealize.ShloMosaic.Lib.Pipeline.Value
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # One plane of a stacked buffer: its slot, loads and stores through the whole buffer -/

/-- A chunk as a plane of a stack. -/
def up (X : Vec F S128x1024 .bf16) : Vec F S1x128x1024 .bf16 := shapeCast S1x128x1024 X shapeCasts_S128x1024_S1x128x1024
/-- A plane of a stack as a chunk. -/
def down (Y : Vec F S1x128x1024 .bf16) : Vec F S128x1024 .bf16 := shapeCast S128x1024 Y shapeCasts_S1x128x1024_S128x1024

/-- Adding a first axis of length one and dropping it changes nothing. -/
theorem down_up (X : Vec F S128x1024 .bf16) : down (up X) = X := Idealize.ShloMosaic.shapeCast_shapeCast _ _ _
/-- Dropping a first axis of length one and adding it changes nothing. -/
theorem up_down (Y : Vec F S1x128x1024 .bf16) : up (down Y) = Y := Idealize.ShloMosaic.shapeCast_shapeCast _ _ _

section Slot

variable {d : Fin 3 → ℕ} (M : Memref sig .tc .vmem ⟨3, d⟩ .bf16)

/-- The plane at an offset of a stack. -/
def slotOf (off : Fin 3 → ℕ) (inb : ∀ a, off a + S1x128x1024.size a ≤ (⟨3, d⟩ : Shape).size a) : Memref sig .tc .vmem S128x1024 .bf16 :=
  (M.slice (Rect.unit (s := ⟨3, d⟩) off S1x128x1024.size inb) (fun _ => rfl)).squeeze S128x1024 squeezes_S1x128x1024_S128x1024

variable {off : Fin 3 → ℕ} (inb : ∀ a, off a + S1x128x1024.size a ≤ (⟨3, d⟩ : Shape).size a)

/-- Equal places give the same slot. -/
theorem slotOf_congr {off' : Fin 3 → ℕ} (h : off = off') (inb' : ∀ a, off' a + S1x128x1024.size a ≤ (⟨3, d⟩ : Shape).size a) :
    slotOf M off inb = slotOf M off' inb' := by subst h; rfl

/-- A slot's elements are those that a load of it reaches. -/
theorem slot_set : (slotOf M off inb).view.set = (M.access (Rect.unit (s := ⟨3, d⟩) off S1x128x1024.size inb)).set :=
  View.set_reshape _ _

/-- A slot's contents are what a load of it reads, without the first axis. -/
theorem read_slot (f : (M.access (Rect.unit (s := ⟨3, d⟩) off S1x128x1024.size inb)).ty.Contents (Elt F)) :
    (slotOf M off inb).view.read (Elt F) f = down ((M.access (Rect.unit (s := ⟨3, d⟩) off S1x128x1024.size inb)).read (Elt F) f) := rfl

/-- A load of a slot reads its contents, with a first axis. -/
theorem read_access_slot (X : Vec F S128x1024 .bf16) :
    (M.access (Rect.unit (s := ⟨3, d⟩) off S1x128x1024.size inb)).read (Elt F) ((slotOf M off inb).view.rep X) = up X := by
  have h : down ((M.access (Rect.unit (s := ⟨3, d⟩) off S1x128x1024.size inb)).read (Elt F) ((slotOf M off inb).view.rep X)) = X :=
    View.read_rep (slotOf M off inb).view X
  exact (up_down _).symm.trans (congrArg up h)

variable (c : Dev nD)

/-- A load of one plane through the stack reads the slot's chunk. -/
theorem wp_load_slot {α : Type} {Q : α → sProp 𝕄} {off' : Fin 3 → ℕ} (inb' : ∀ a, off' a + S1x128x1024.size a ≤ (⟨3, d⟩ : Shape).size a) (h : off' = off)
    (q : PosShare TreeShare) (X : Vec F S128x1024 .bf16)
    {hl : M.view.LoadsAt (Rect.unit (s := ⟨3, d⟩) off' S1x128x1024.size inb').toLoadRect}
    {k : Vec F S1x128x1024 .bf16 → Prog (TpuEff nD τ sig (Elt F) Λ₀ .tc) α} :
    at_ c (slotOf M off inb) q X
      ⊢ iprop((at_ c (slotOf M off inb) q X -∗ wp frame (wpE (defs₀ (F := F)) Variants.none (c : Thread nD τ) none) Set.univ (k (up X)) Q)
        -∗ wp frame (wpE (defs₀ (F := F)) Variants.none (c : Thread nD τ) none) Set.univ
            (.op (.load M (Rect.unit (s := ⟨3, d⟩) off' S1x128x1024.size inb').toLoadRect hl) k) Q) := by
  subst h
  have e := read_access_slot (F := F) M inb X
  have w := wp_load_rect (defs := defs₀ (F := F)) Variants.none (c : Thread nD τ) none Set.univ (Name := ℕ) (U := UU) (Lvl := ℕ) (Ix := Unit) (Γ := []) (m := M) (r := Rect.unit (s := ⟨3, d⟩) off' S1x128x1024.size inb) (hl := hl)
    (S := (slotOf M off' inb).view.set) (q := q) (f := (slotOf M off' inb).view.rep X) (Q := Q) (k := k) (by rw [slot_set])
  rw [e] at w
  exact w

/-- A store of one whole plane through the stack leaves the slot holding the plane as a chunk. -/
theorem wp_store_slot {α : Type} {Q : α → sProp 𝕄} {off' : Fin 3 → ℕ} (inb' : ∀ a, off' a + S1x128x1024.size a ≤ (⟨3, d⟩ : Shape).size a) (h : off' = off)
    (f : Buf (Elt F) ((slotOf M off inb).view.loc (c : Thread nD τ))) (w : Vec F S1x128x1024 .bf16)
    {hx : (M.access (Rect.unit (s := ⟨3, d⟩) off' S1x128x1024.size inb')).Stores Finset.univ}
    {hm : (Finset.univ : Finset (Rect.unit (s := ⟨3, d⟩) off' S1x128x1024.size inb').shape.Idx) = Finset.univ ∨ ∀ a, (Rect.unit (s := ⟨3, d⟩) off' S1x128x1024.size inb').stride a = 1}
    {k : PUnit → Prog (TpuEff nD τ sig (Elt F) Λ₀ .tc) α} :
    ((slotOf M off inb).view.loc (c : Thread nD τ) ↦[(slotOf M off inb).view.set]{fullShare} f : sProp 𝕄)
      ⊢ iprop((at_ c (slotOf M off inb) fullShare (down w) -∗ wp frame (wpE (defs₀ (F := F)) Variants.none (c : Thread nD τ) none) Set.univ (k ⟨⟩) Q)
        -∗ wp frame (wpE (defs₀ (F := F)) Variants.none (c : Thread nD τ) none) Set.univ
            (.op (.store M (Rect.unit (s := ⟨3, d⟩) off' S1x128x1024.size inb') w Finset.univ hx hm) k) Q) := by
  subst h
  have w' := wp_store (defs := defs₀ (F := F)) Variants.none (c : Thread nD τ) none Set.univ (Name := ℕ) (U := UU) (Lvl := ℕ) (Ix := Unit) (Γ := []) (m := M)
    (r := Rect.unit (s := ⟨3, d⟩) off' S1x128x1024.size inb) (w := w) (Mk := Finset.univ) (hx := hx) (hm := hm) (Q := Q) (k := k)
    (S := (slotOf M off' inb).view.set) (f := f) (by rw [slot_set]; exact Finset.Subset.refl _)
  refine w'.trans (wand_mono_left (wand_mono_left ?_))
  exact pointsTo_rep_of_read (c : Thread nD τ) (slotOf M off' inb) _ fullShare (down w)
    (by rw [read_slot]; exact congrArg down (View.read_write_univ _ _))

end Slot

/-! ## The slots of the two stacks -/

/-- Every chunk lies within the accumulator. -/
theorem inb_acc : ∀ i : Fin 8, ∀ a, (![i.val, 0, 0] : Fin 3 → ℕ) a + S1x128x1024.size a ≤ S8x128x1024.size a := by decide
/-- Every slot lies within the landing buffer. -/
theorem inb_com : ∀ i : Fin 12, ∀ a, (![i.val, 0, 0] : Fin 3 → ℕ) a + S1x128x1024.size a ≤ S12x128x1024.size a := by decide

/-- Slot `i` of the eight partial results. -/
def accS (i : Fin 8) : Memref sig .tc .vmem S128x1024 .bf16 := slotOf accM ![i.val, 0, 0] (inb_acc i)
/-- Slot `i` of the twelve landing planes. -/
def comS (i : Fin 12) : Memref sig .tc .vmem S128x1024 .bf16 := slotOf comM ![i.val, 0, 0] (inb_com i)

/-- A slot at some contents holds some chunk. -/
theorem any_at (c : Dev nD) (m : Memref sig .tc .vmem S128x1024 .bf16) : any_ (F := F) c m ⊢ iprop(∃ X : Vec F S128x1024 .bf16, at_ c m fullShare X) := by
  iintro ⟨%f, H⟩
  iexists (m.view.read (Elt F) f)
  iapply (pointsTo_rep_of_read (c : Thread nD τ) m f fullShare (m.view.read (Elt F) f) rfl) $$ H

section Access

variable (c : Dev nD)

/-- A load of a slot of the partial results. -/
theorem wp_load_acc {α : Type} {Q : α → sProp 𝕄} (i : Fin 8) {off' : Fin 3 → ℕ} (h : off' = ![i.val, 0, 0]) (inb' : ∀ a, off' a + S1x128x1024.size a ≤ S8x128x1024.size a)
    (q : PosShare TreeShare) (X : Vec F S128x1024 .bf16)
    {hl : accM.view.LoadsAt (Rect.unit (s := S8x128x1024) off' S1x128x1024.size inb').toLoadRect}
    {k : Vec F S1x128x1024 .bf16 → Prog (TpuEff nD τ sig (Elt F) Λ₀ .tc) α} :
    at_ c (accS i) q X
      ⊢ iprop((at_ c (accS i) q X -∗ wp frame (wpE (defs₀ (F := F)) Variants.none (c : Thread nD τ) none) Set.univ (k (up X)) Q)
        -∗ wp frame (wpE (defs₀ (F := F)) Variants.none (c : Thread nD τ) none) Set.univ
            (.op (.load accM (Rect.unit (s := S8x128x1024) off' S1x128x1024.size inb').toLoadRect hl) k) Q) :=
  wp_load_slot accM (inb_acc i) c inb' h q X

/-- A store of a slot of the partial results. -/
theorem wp_store_acc {α : Type} {Q : α → sProp 𝕄} (i : Fin 8) {off' : Fin 3 → ℕ} (h : off' = ![i.val, 0, 0]) (inb' : ∀ a, off' a + S1x128x1024.size a ≤ S8x128x1024.size a)
    (Y X : Vec F S128x1024 .bf16) (w : Vec F S1x128x1024 .bf16) (hw : w = up X)
    {hx : (accM.access (Rect.unit (s := S8x128x1024) off' S1x128x1024.size inb')).Stores Finset.univ}
    {hm : (Finset.univ : Finset (Rect.unit (s := S8x128x1024) off' S1x128x1024.size inb').shape.Idx) = Finset.univ ∨ ∀ a, (Rect.unit (s := S8x128x1024) off' S1x128x1024.size inb').stride a = 1}
    {k : PUnit → Prog (TpuEff nD τ sig (Elt F) Λ₀ .tc) α} :
    at_ c (accS i) fullShare Y
      ⊢ iprop((at_ c (accS i) fullShare X -∗ wp frame (wpE (defs₀ (F := F)) Variants.none (c : Thread nD τ) none) Set.univ (k ⟨⟩) Q)
        -∗ wp frame (wpE (defs₀ (F := F)) Variants.none (c : Thread nD τ) none) Set.univ
            (.op (.store accM (Rect.unit (s := S8x128x1024) off' S1x128x1024.size inb') w Finset.univ hx hm) k) Q) := by
  subst hw
  have e := wp_store_slot accM (inb_acc i) c (Q := Q) inb' h ((accS i).view.rep Y) (up X) (hx := hx) (hm := hm) (k := k)
  rw [down_up] at e
  exact e

/-- A load of a landing plane. -/
theorem wp_load_com {α : Type} {Q : α → sProp 𝕄} (i : Fin 12) {off' : Fin 3 → ℕ} (h : off' = ![i.val, 0, 0]) (inb' : ∀ a, off' a + S1x128x1024.size a ≤ S12x128x1024.size a)
    (q : PosShare TreeShare) (X : Vec F S128x1024 .bf16)
    {hl : comM.view.LoadsAt (Rect.unit (s := S12x128x1024) off' S1x128x1024.size inb').toLoadRect}
    {k : Vec F S1x128x1024 .bf16 → Prog (TpuEff nD τ sig (Elt F) Λ₀ .tc) α} :
    at_ c (comS i) q X
      ⊢ iprop((at_ c (comS i) q X -∗ wp frame (wpE (defs₀ (F := F)) Variants.none (c : Thread nD τ) none) Set.univ (k (up X)) Q)
        -∗ wp frame (wpE (defs₀ (F := F)) Variants.none (c : Thread nD τ) none) Set.univ
            (.op (.load comM (Rect.unit (s := S12x128x1024) off' S1x128x1024.size inb').toLoadRect hl) k) Q) :=
  wp_load_slot comM (inb_com i) c inb' h q X

end Access

/-- The upper chunk of round `j`. -/
def cwF (c : Dev nD) (j : Fin 4) : Fin 8 := ⟨((c.val + 4) - j.val) % 4, by omega⟩
/-- The lower chunk of round `j`. -/
def ccwF (c : Dev nD) (j : Fin 4) : Fin 8 := ⟨(c.val + j.val) % 4 + 4, by omega⟩

/-- The credit of one chunk's transfer. -/
def N : ℕ := (comS 0).view.dmaCredit
/-- A copy signals some units. -/
theorem N_pos : 0 < N := View.dmaCredit_pos _ (by decide)
/-- Every chunk's copy signals the same units. -/
theorem credit (m : Memref sig .tc .vmem S128x1024 .bf16) : m.view.dmaCredit = N := rfl
/-- Every chunk's copy signals the same units, on any semaphore. -/
theorem amount_dma (m : Memref sig .tc .vmem S128x1024 .bf16) (s : DmaSem sig) : m.view.amount (.dma s) = N := rfl

/-! ## The semaphores -/

/-- The semaphore that counts copy `h`'s source as read. -/
def sS (h : Fin 12) : DmaSem sig := ⟨6 + h.val, by have := h.isLt; show _ < 30; omega⟩
/-- The semaphore that counts copy `h` as landed. -/
def vS (h : Fin 12) : DmaSem sig := ⟨18 + h.val, by have := h.isLt; show _ < 30; omega⟩
/-- The barrier's semaphore. -/
abbrev bS : Sem sig := (SemArray.scalar (sig.barrier 0 rfl) : Sems sig S_).sem

end Cert.KernelIdealProof
-- ==== Proof.Proto.lean ====
module

public import proofs.«01_k».proof.Proof.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The exchange around the ring: who waits for whom, what each landing hands over -/

/-- The pipeline's ghost state. -/
abbrev EP : Emb (UR sig nD τ) 𝕄 := embL
/-- The exchange's ghost state. -/
abbrev ER : Emb UB 𝕄 := embR

/-- What a semaphore counts: the barrier, the reading of a copy's source, a copy's landing, or nothing of the exchange. -/
inductive Role | bar | snd (h : Fin 12) | rcv (h : Fin 12) | idle
  deriving DecidableEq

/-- The role of a semaphore. -/
def role : SemLoc sig → Role
  | .reg _ => .bar
  | .dma s => if h₀ : s.val < 6 then .idle else if h₁ : s.val < 18 then .snd ⟨s.val - 6, by omega⟩
      else .rcv ⟨s.val - 18, by have : s.val < 30 := s.isLt; omega⟩

/-- The barrier's role. -/
theorem role_bar : role (.reg bS) = .bar := rfl
/-- A send semaphore's role. -/
theorem role_snd (h : Fin 12) : role (.dma (sS h)) = .snd h := by revert h; decide
/-- A receive semaphore's role. -/
theorem role_rcv (h : Fin 12) : role (.dma (vS h)) = .rcv h := by revert h; decide

/-- The right neighbour of the left neighbour is the device itself. -/
theorem rt_lf (c : Dev nD) : rt (lf c) = c := by revert c; decide
/-- The left neighbour of the right neighbour is the device itself. -/
theorem lf_rt (c : Dev nD) : lf (rt c) = c := by revert c; decide

/-- Whether copy `h` travels to the right. -/
def toR (h : Fin 12) : Bool := h.val = 0 ∨ h.val = 1 ∨ h.val = 2 ∨ h.val = 6 ∨ h.val = 8 ∨ h.val = 10
/-- The neighbour on one side. -/
def nb (c : Dev nD) : Bool → Dev nD | true => rt c | false => lf c
/-- Where copy `h` of a device lands. -/
def tg (h : Fin 12) (c : Dev nD) : Dev nD := nb c (toR h)
/-- Whose copy `h` lands at a device. -/
def fr (h : Fin 12) (c : Dev nD) : Dev nD := nb c (!toR h)
/-- The target's source is the device itself. -/
theorem fr_to (h : Fin 12) (c : Dev nD) : fr h (tg h c) = c := by revert h c; decide
/-- The source's target is the device itself. -/
theorem tg_fr (h : Fin 12) (c : Dev nD) : tg h (fr h c) = c := by revert h c; decide
/-- The neighbour's neighbour, the other way, is the device itself. -/
theorem nb_nb (c : Dev nD) (b : Bool) : nb (nb c b) (!b) = c := by revert c b; decide

/-- A device's barrier. -/
abbrev barC (c : Dev nD) : GSem nD τ sig := ((c : Thread nD τ), .reg bS)
/-- A device's send semaphore of a slot. -/
abbrev sndC (c : Dev nD) (h : Fin 12) : GSem nD τ sig := ((c : Thread nD τ), .dma (sS h))
/-- A device's receive semaphore of a slot. -/
abbrev rcvC (c : Dev nD) (h : Fin 12) : GSem nD τ sig := ((c : Thread nD τ), .dma (vS h))

/-! ## What each copy carries -/

/-- The plane copy `h` reads. -/
def srcM (c : Dev nD) : Fin 12 → Memref sig .tc .vmem S128x1024 .bf16
  | 0 => accS (cwF c 0) | 1 => accS (cwF c 1) | 2 => accS (cwF c 2)
  | 3 => accS (ccwF c 0) | 4 => accS (ccwF c 1) | 5 => accS (ccwF c 2)
  | 6 => accS (cwF c 3) | 7 => accS (cwF c 3) | 8 => accS (ccwF c 3) | 9 => accS (ccwF c 3)
  | 10 => comS 6 | 11 => comS 9
/-- The share of that plane the copy is lent. -/
def srcQ : Fin 12 → PosShare TreeShare
  | 6 => fullShare.left | 7 => fullShare.right.left | 8 => fullShare.left | 9 => fullShare.right.left
  | 10 => fullShare.left | 11 => fullShare.left | _ => fullShare

variable (I : Dev nD → Blocks F)

/-- The chunk copy `h` of a device carries. -/
def srcV (c : Dev nD) : Fin 12 → Vec F S128x1024 .bf16
  | 0 => A I 0 c | 1 => A I 1 c | 2 => A I 2 c | 3 => B I 0 c | 4 => B I 1 c | 5 => B I 2 c
  | 6 => A I 3 c | 7 => A I 3 c | 8 => B I 3 c | 9 => B I 3 c
  | 10 => A I 3 (lf c) | 11 => B I 3 (rt c)
/-- The chunk that lands in plane `h`. -/
def rcvV (e : Dev nD) (h : Fin 12) : Vec F S128x1024 .bf16 := srcV I (fr h e) h

/-! ## The schedule -/

/-- A landing plane of a device lent to a neighbour, and that its landing is still to come. -/
def landing (e : Dev nD) (h : Fin 12) : sProp 𝕄 := iprop(any_ (F := F) e (comS h) ∗ reached ER (rcvC e h) 0)
/-- What a neighbour's signal hands over: the planes the signalled device's copies land in there. -/
def barPay (e : Dev nD) : Bool → sProp 𝕄
  | true => iprop(landing (F := F) (rt e) 0 ∗ landing (F := F) (rt e) 1 ∗ landing (F := F) (rt e) 2 ∗ landing (F := F) (rt e) 6 ∗ landing (F := F) (rt e) 8 ∗ landing (F := F) (rt e) 10)
  | false => iprop(landing (F := F) (lf e) 3 ∗ landing (F := F) (lf e) 4 ∗ landing (F := F) (lf e) 5 ∗ landing (F := F) (lf e) 7 ∗ landing (F := F) (lf e) 9 ∗ landing (F := F) (lf e) 11)
/-- What the reading of copy `h`'s source hands back. -/
def sndPay (c : Dev nD) (h : Fin 12) : sProp 𝕄 := at_ c (srcM c h) (srcQ h) (srcV I c h)
/-- What the landing of copy `h` hands over. -/
def rcvPay (e : Dev nD) (h : Fin 12) : sProp 𝕄 := at_ e (comS h) fullShare (rcvV I e h)

/-- One round on every cell of the exchange: two units on a barrier cell, one transfer on every other. -/
def Rd : Rounds.Schedule (GSem nD τ sig) Bool 𝕄 where
  duties g r := if r = 0 ∧ g.1.2 = .tc then (match role g.2 with | .bar => Finset.univ | .snd _ => {false} | .rcv _ => {false} | .idle => ∅) else ∅
  unitless _ := False
  amount g _ _ := match role g.2 with | .bar => 1 | _ => N
  payload g _ d := match role g.2 with
    | .bar => barPay g.1.1 d
    | .snd h => sndPay I g.1.1 h
    | .rcv h => rcvPay I g.1.1 h
    | .idle => iprop(emp)
  amount_pos g _ _ _ := by
    show 0 < (match role g.2 with | .bar => 1 | _ => N)
    split
    · exact Nat.one_pos
    · exact N_pos

instance landing_storable (e : Dev nD) (h : Fin 12) : BI.Storable (upEmb : UEmb _ 𝕄) (landing (F := F) e h) := by
  unfold landing; infer_instance
instance barPay_storable (e : Dev nD) (d : Bool) : BI.Storable (upEmb : UEmb _ 𝕄) (barPay (F := F) e d) := by
  cases d <;> (unfold barPay; infer_instance)
instance Rd_payload_storable (g : GSem nD τ sig) (r : ℕ) (d : Bool) : BI.Storable (upEmb : UEmb _ 𝕄) ((Rd I).payload g r d) := by
  show BI.Storable upEmb (match role g.2 with
    | .bar => barPay g.1.1 d | .snd h => sndPay I g.1.1 h | .rcv h => rcvPay I g.1.1 h | .idle => iprop(emp))
  unfold sndPay rcvPay
  split <;> infer_instance

section Tables

variable (c : Dev nD) (h : Fin 12)

/-- Both neighbours signal a barrier. -/
theorem duties_bar : (Rd I).duties (barC c) 0 = Finset.univ := by
  dsimp only [Rd]; rw [if_pos ⟨rfl, rfl⟩]; rfl
/-- One copy signals a send semaphore. -/
theorem duties_snd : (Rd I).duties (sndC c h) 0 = {false} := by
  dsimp only [Rd]; rw [if_pos ⟨rfl, rfl⟩, role_snd]
/-- One copy signals a receive semaphore. -/
theorem duties_rcv : (Rd I).duties (rcvC c h) 0 = {false} := by
  dsimp only [Rd]; rw [if_pos ⟨rfl, rfl⟩, role_rcv]
/-- Every semaphore is used once only. -/
theorem duties_later (g : GSem nD τ sig) : ∀ r, 1 ≤ r → (Rd I).duties g r = ∅ :=
  fun r hr => by dsimp only [Rd]; rw [if_neg (fun h => by omega)]
/-- A neighbour's signal is one unit. -/
theorem amount_bar (d : Bool) : (Rd I).amount (barC c) 0 d = 1 := rfl
/-- A copy's units on its send semaphore. -/
theorem amount_snd (d : Bool) : (Rd I).amount (sndC c h) 0 d = N := by dsimp only [Rd]; rw [role_snd]
/-- A copy's units on its receive semaphore. -/
theorem amount_rcv (d : Bool) : (Rd I).amount (rcvC c h) 0 d = N := by dsimp only [Rd]; rw [role_rcv]
/-- What a neighbour's signal hands over. -/
theorem payload_bar (d : Bool) : (Rd I).payload (barC c) 0 d = barPay c d := rfl
/-- What a copy hands back to its sender. -/
theorem payload_snd (d : Bool) : (Rd I).payload (sndC c h) 0 d = sndPay I c h := by dsimp only [Rd]; rw [role_snd]
/-- What a landing hands over. -/
theorem payload_rcv (d : Bool) : (Rd I).payload (rcvC c h) 0 d = rcvPay I c h := by dsimp only [Rd]; rw [role_rcv]
/-- A barrier gets two units. -/
theorem expect_bar : (Rd I).expect (barC c) 0 = 2 := by
  unfold Schedule.expect Schedule.amountOf; rw [duties_bar]; rfl
/-- A send semaphore gets one copy's units. -/
theorem expect_snd : (Rd I).expect (sndC c h) 0 = N := by
  unfold Schedule.expect Schedule.amountOf; rw [duties_snd, Finset.sum_singleton, amount_snd]
/-- A receive semaphore gets one copy's units. -/
theorem expect_rcv : (Rd I).expect (rcvC c h) 0 = N := by
  unfold Schedule.expect Schedule.amountOf; rw [duties_rcv, Finset.sum_singleton, amount_rcv]
/-- What a wait on the barrier gives: both neighbours' payloads. -/
theorem rest_bar : bigSep ((Rd I).duties (barC c) 0 \ ∅) (fun u => (Rd I).payload (barC c) 0 u) = iprop(barPay c true ∗ barPay c false) := by
  rw [Finset.sdiff_empty, duties_bar, show (Finset.univ : Finset Bool) = {true, false} from rfl, bigSep_insert (by decide), bigSep_singleton,
    payload_bar, payload_bar]
  rfl
/-- What a wait on a send semaphore gives. -/
theorem rest_snd : bigSep ((Rd I).duties (sndC c h) 0 \ ∅) (fun u => (Rd I).payload (sndC c h) 0 u) = sndPay I c h := by
  rw [Finset.sdiff_empty, duties_snd, bigSep_singleton, payload_snd]
/-- What a wait on a receive semaphore gives. -/
theorem rest_rcv : bigSep ((Rd I).duties (rcvC c h) 0 \ ∅) (fun u => (Rd I).payload (rcvC c h) 0 u) = rcvPay I c h := by
  rw [Finset.sdiff_empty, duties_rcv, bigSep_singleton, payload_rcv]

end Tables

/-! ## What a device owes, and the levels -/

/-- The landings a device still owes, for a list of copies to come. -/
def owe (c : Dev nD) : List (Fin 12) → CellTallies nD τ sig Unit
  | [] => 0
  | h :: l => owe c l + tallyAt (rcvC (tg h c) h) () N
/-- All copies in the order they start. -/
abbrev allCopies : List (Fin 12) := [0, 3, 1, 4, 2, 5, 6, 7, 8, 9, 10, 11]
/-- What a device owes at its start. -/
def O₀ (c : Dev nD) : CellTallies nD τ sig Unit :=
  (owe c allCopies + tallyAt (barC (rt c)) () 1) + tallyAt (barC (lf c)) () 1

/-- What is owed for the copies still to be started is owed to their targets' receive semaphores. -/
theorem owe_pos {c : Dev nD} {g : GSem nD τ sig} {u : Unit} : ∀ {l : List (Fin 12)}, 0 < owe c l g u → ∃ h ∈ l, g = rcvC (tg h c) h
  | [], h => absurd h (Nat.lt_irrefl 0)
  | h :: l, hp => by
    unfold owe at hp
    rw [Pi.add_apply, Finsupp.add_apply] at hp
    rcases Nat.add_pos_iff_pos_or_pos.mp hp with hp | hp
    · obtain ⟨h', hm, e⟩ := owe_pos hp
      exact ⟨h', List.mem_cons_of_mem _ hm, e⟩
    · rw [tallyAt_apply] at hp
      split at hp
      · next hg => exact ⟨h, List.mem_cons_self, hg.1⟩
      · exact absurd hp (Nat.lt_irrefl 0)

/-- The level of a landing: later hops above earlier ones. -/
def lvl (h : Fin 12) : ℕ := if h.val = 0 ∨ h.val = 3 then 2 else if h.val = 1 ∨ h.val = 4 then 3 else if h.val = 2 ∨ h.val = 5 then 4
  else if h.val < 10 then 5 else 6
/-- The debts that a semaphore may have: those of a core's semaphores. -/
def L (g : GSem nD τ sig) : Finset Unit := if g.1.2 = .tc then {()} else ∅
/-- Barrier cells below all landings; everything else at 0. -/
def lv (g : GSem nD τ sig) (_ : Unit) : ℕ := match role g.2 with | .bar => 1 | .rcv h => lvl h | _ => 0

/-- No other semaphore has debts. -/
theorem L_of_ne (g : GSem nD τ sig) (h : g.1.2 ≠ .tc) : L g = ∅ := if_neg h
/-- A core's semaphore has its debts. -/
theorem L_tc (c : Dev nD) (sm : SemLoc sig) : L ((c : Thread nD τ), sm) = {()} := if_pos rfl
/-- A receive semaphore's level is its slot's. -/
theorem lv_rcv (c : Dev nD) (h : Fin 12) (u : Unit) : lv (rcvC c h) u = lvl h := by dsimp only [lv]; rw [role_rcv]
/-- The barrier's level. -/
theorem lv_bar (c : Dev nD) (u : Unit) : lv (barC c) u = 1 := rfl

/-- A device may wait on a semaphore below the slots of all the copies that it has still to start. -/
theorem mayWait_of (c : Dev nD) (sm : SemLoc sig) (n : ℕ) (hn : lv ((c : Thread nD τ), sm) () = n) (l : List (Fin 12)) (hl : ∀ h ∈ l, n < lvl h) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by
      obtain ⟨h, -, rfl⟩ := owe_pos hg
      rw [L_tc]; exact Finset.mem_singleton_self _)
    (fun p hp => by rw [Finset.mem_singleton.mp hp]; exact hn.le)
    (fun g u hg => by
      obtain ⟨h, hm, rfl⟩ := owe_pos hg
      rw [lv_rcv]; exact hl h hm)

/-! ## The ghost state a device works with -/

/-- The exchange's own semaphores of the kernel: the readings and the landings. -/
abbrev osem : Bool × Fin 12 → SemLoc sig := fun k => .dma (match k.1 with | false => sS k.2 | true => vS k.2)
/-- The cells live from launch. -/
def barEmb : Dev nD ↪ GSem nD τ sig := ⟨fun c => barC c, fun _ _ h => congrArg (fun g : GSem nD τ sig => g.1.1) h⟩
/-- The kernel's own semaphores are different ones. -/
theorem osem_inj : Function.Injective osem := by decide
/-- The cells opened inside the kernel. -/
def scEmb : Dev nD × (Bool × Fin 12) ↪ GSem nD τ sig :=
  ⟨fun ck => ((ck.1 : Thread nD τ), osem ck.2), fun _ _ h =>
    Prod.ext (congrArg (fun g : GSem nD τ sig => g.1.1) h) (osem_inj (congrArg Prod.snd h))⟩
/-- All barriers. -/
abbrev barCells : Finset (GSem nD τ sig) := Finset.univ.map barEmb
/-- All send and receive semaphores. -/
abbrev scCells : Finset (GSem nD τ sig) := Finset.univ.map scEmb

/-- All the exchange's invariants, and that every barrier cell's round is reached. -/
def recs (κ : GSem nD τ sig → ℕ) : sProp 𝕄 :=
  iprop((bigSep (barCells ∪ scCells) fun g => cellInv ER (Rd I) (κ g) g) ∗ bigSep barCells fun g => reached ER g 0)
instance recs_persistent (κ : GSem nD τ sig → ℕ) : BI.Persistent (recs I κ) := by unfold recs; infer_instance

/-- A barrier takes part in the protocol. -/
theorem bar_mem (c : Dev nD) : barC c ∈ (barCells ∪ scCells : Finset (GSem nD τ sig)) :=
  Finset.mem_union_left _ (Finset.mem_map_of_mem barEmb (Finset.mem_univ c))
/-- A send semaphore takes part in the protocol. -/
theorem snd_mem (c : Dev nD) (h : Fin 12) : sndC c h ∈ (barCells ∪ scCells : Finset (GSem nD τ sig)) :=
  Finset.mem_union_right _ (Finset.mem_map_of_mem scEmb (Finset.mem_univ (c, (false, h))))
/-- A receive semaphore takes part in the protocol. -/
theorem rcv_mem (c : Dev nD) (h : Fin 12) : rcvC c h ∈ (barCells ∪ scCells : Finset (GSem nD τ sig)) :=
  Finset.mem_union_right _ (Finset.mem_map_of_mem scEmb (Finset.mem_univ (c, (true, h))))

/-- The records give each semaphore's invariant. -/
theorem inv_at (κ : GSem nD τ sig → ℕ) {g : GSem nD τ sig} (hg : g ∈ (barCells ∪ scCells : Finset (GSem nD τ sig))) :
    recs I κ ⊢ cellInv ER (Rd I) (κ g) g := by
  exact sep_elim_left.trans (bigSep_elim (Φ := fun g => (cellInv ER (Rd I) (κ g) g : sProp 𝕄)) hg)
/-- The records give that a barrier's round is reached. -/
theorem reached_bar (κ : GSem nD τ sig → ℕ) (c : Dev nD) : recs I κ ⊢ reached ER (barC c) 0 := by
  exact sep_elim_right.trans (bigSep_elim (Φ := fun g => (reached ER g 0 : sProp 𝕄)) (Finset.mem_map_of_mem barEmb (Finset.mem_univ c)))

/-- A device owing, whatever it waited for. -/
def owes_ (c : Dev nD) (O : CellTallies nD τ sig Unit) : sProp 𝕄 := iprop(∃ W, owes (c : Thread nD τ) O W)
/-- What a device needs to start copy `h`: both duties' tokens and that its own reading is to come. -/
def sTok (c : Dev nD) (h : Fin 12) : sProp 𝕄 :=
  iprop(dutyTok ER (sndC c h) 0 false ∗ reached ER (sndC c h) 0 ∗ dutyTok ER (rcvC (tg h c) h) 0 false)
/-- What a device needs to wait for the landing in plane `h`. -/
def rTok (c : Dev nD) (h : Fin 12) : sProp 𝕄 := iprop(atPos ER (rcvC c h) 0 ∅ 0 ∗ cred (tallyAt (rcvC c h) () N))
/-- What a device needs to wait for the reading of copy `h`, once it is started. -/
def dTok (c : Dev nD) (h : Fin 12) : sProp 𝕄 := iprop(atPos ER (sndC c h) 0 ∅ 0 ∗ cred (tallyAt (sndC c h) () N))

variable (κ : GSem nD τ sig → ℕ)

/-- A device's part of the kernel ends well, with `Q` of its result. -/
abbrev wpB {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- A landed copy leaves the destination holding what the source held. -/
theorem landed (e : Dev nD) (src dst : Memref sig .tc .vmem S128x1024 .bf16) (X : Vec F S128x1024 .bf16) (fd : Buf (Elt F) (dst.view.loc (e : Thread nD τ))) :
    (dst.view.loc (e : Thread nD τ) ↦[dst.view.set]{fullShare} (dst.view.write (Elt F) fd (src.view.read (Elt F) (src.view.rep X)) Finset.univ) : sProp 𝕄)
      ⊢ at_ e dst fullShare X := by
  rw [View.read_rep src.view X]
  exact pointsTo_rep_of_read (e : Thread nD τ) dst (dst.view.write (Elt F) fd X Finset.univ) fullShare X (View.read_write_univ (v := dst.view) fd X)

/-- Starting copy `h`: the source's share is lent until the reading is waited for, and the landing is no longer owed. -/
theorem wp_snd {α : Type} {Q : α → sProp 𝕄} (c : Dev nD) (h : Fin 12) (l : List (Fin 12)) (dev : Dev nD) (hdev : dev = tg h c)
    (src : Memref sig .tc .vmem S128x1024 .bf16) (hsrc : src = srcM c h) (dst : Memref sig .tc .vmem S128x1024 .bf16) (hdst : dst = comS h)
    (s₁ s₂ : DmaSem sig) (hs₁ : s₁ = sS h) (hs₂ : s₂ = vS h)
    {hsc : dst.view.ref.isScScratch = false} {hx₁ : src.view.WordExact} {hx₂ : dst.view.WordExact}
    {hsem : DmaTarget.Typed .vmem (.dma s₂) (.remote (dev : Thread nD τ) dst (.dma s₁) hsc)}
    {k : PUnit → Prog (TpuEff nD τ sig (Elt F) Λ₀ .tc) α} :
    iprop(recs I κ ∗ at_ c (srcM c h) (srcQ h) (srcV I c h) ∗ landing (F := F) (tg h c) h ∗ sTok c h ∗ owes_ c (owe c (h :: l)))
      ⊢ iprop((cred (tallyAt (sndC c h) () N) ∗ owes_ c (owe c l) -∗ wpB c (k ⟨⟩) Q)
        -∗ wpB c (.op (.enqueueDma src (.remote (dev : Thread nD τ) dst (.dma s₁) hsc) (.dma s₂) hx₁ hx₂ hsem) k) Q) := by
  subst hdev hsrc hdst hs₁ hs₂
  unfold landing sTok owes_
  iintro ⟨#HR, Hsrc, ⟨⟨%fd, Hdst⟩, #Hrv⟩, ⟨HtS, #HrS, HtV⟩, ⟨%W, HO⟩⟩ Hk
  iapply (Rounds.wp_send_pointsTo Variants.none ER (Rd I) (c : Thread nD τ) none (c' := ((tg h c : Dev nD) : Thread nD τ)) (src := srcM c h) (dst := comS h)
      (sS := .dma (sS h)) (sem := .dma (vS h)) (q := srcQ h) (fs := (srcM c h).view.rep (srcV I c h)) (κ₁ := κ (sndC c h)) (κ₂ := κ (rcvC (tg h c) h))
      (r₁ := 0) (r₂ := 0) (d₁ := false) (d₂ := false) (fd := fd)
      (by rw [duties_snd]; exact Finset.mem_singleton_self _) (by rw [duties_rcv]; exact Finset.mem_singleton_self _)
      () () N (amount_dma _ _) (amount_snd I c h _) (amount_rcv I (tg h c) h _) (owe c l) rfl (W := W)
      (by rw [payload_snd]; exact BI.Entails.refl _)
      (by
        rw [payload_rcv]; unfold rcvPay rcvV; rw [fr_to]
        exact landed (tg h c) (srcM c h) (comS h) (srcV I c h) fd)) $$ [Hsrc Hdst HO HtS HtV]
  · isplitr; · iapply (inv_at I κ (snd_mem c h)); iexact HR
    isplitr; · iapply (inv_at I κ (rcv_mem (tg h c) h)); iexact HR
    isplitl [Hsrc]; · iexact Hsrc
    isplitl [Hdst]; · iexact Hdst
    isplitl [HO]; · iexact HO
    isplitl [HtS]; · iexact HtS
    isplitr; · iexact HrS
    isplitl [HtV]; · iexact HtV
    iexact Hrv
  iintro ⟨HcS, HO⟩
  iapply Hk
  isplitl [HcS]; · iexact HcS
  iexists W; iexact HO

/-- Waiting for the landing in plane `h`: the plane comes back holding the neighbour's chunk. -/
theorem wp_rcv {α : Type} {Q : α → sProp 𝕄} (c : Dev nD) (h : Fin 12) (l : List (Fin 12)) (hl : ∀ h' ∈ l, lvl h < lvl h')
    (s : DmaSem sig) (hs : s = vS h) {src : Memref sig .tc .vmem S128x1024 .bf16} {dst : Memref sig .tc .vmem S128x1024 .bf16}
    {hx₁ : src.view.WordExact} {hx₂ : dst.view.WordExact}
    {k : PUnit → Prog (TpuEff nD τ sig (Elt F) Λ₀ .tc) α} :
    iprop(recs I κ ∗ levAts L lv ∗ rTok c h ∗ owes_ c (owe c l))
      ⊢ iprop((owes_ c (owe c l) ∗ atPos ER (rcvC c h) 1 ∅ 0 ∗ at_ c (comS h) fullShare (rcvV I c h) -∗ wpB c (k ⟨⟩) Q)
        -∗ wpB c (.op (.waitDma2 s src dst hx₁ hx₂) k) Q) := by
  subst hs
  unfold rTok owes_
  rw [← credit dst]
  iintro ⟨#HR, #Hlev, ⟨Hat, Hc⟩, ⟨%W, HO⟩⟩ Hk
  iapply (Rounds.wp_wait_rest_token Variants.none ER (Rd I) (c : Thread nD τ) none (κ := κ (rcvC c h))
      (wpE_waitDma2_eq Variants.none (c : Thread nD τ) none Set.univ) (Set.mem_univ _) () (O := owe c l) (W := W) (R := 0) (m := 0) (T := ∅)
      (by rw [Nat.zero_add, credit, expect_rcv])) $$ [Hc HO Hat]
  · isplitr; · iapply (inv_at I κ (rcv_mem c h)); iexact HR
    isplitl [Hc]; · iexact Hc
    isplitl [HO]; · iexact HO
    isplitr; · iapply (mayWait_of (F := F) c _ (lvl h) (lv_rcv c h ()) l hl); iexact Hlev
    iexact Hat
  iintro ⟨HO, Hat, -, Hp⟩
  ihave Hp := (Entails.of_eq (rest_rcv I c h)) $$ Hp
  iapply Hk
  isplitl [HO]; · iexists _; iexact HO
  isplitl [Hat]; · iexact Hat
  unfold rcvPay; iexact Hp

/-- Waiting for the reading of copy `h`, owing nothing: the source's share comes back. -/
theorem wp_drn {α : Type} {Q : α → sProp 𝕄} (c : Dev nD) (h : Fin 12)
    (s : DmaSem sig) (hs : s = sS h) {src : Memref sig .tc .vmem S128x1024 .bf16} {dst : Memref sig .tc .vmem S128x1024 .bf16}
    {hx₁ : src.view.WordExact} {hx₂ : dst.view.WordExact}
    {k : PUnit → Prog (TpuEff nD τ sig (Elt F) Λ₀ .tc) α} :
    iprop(recs I κ ∗ dTok c h ∗ owes_ c (owe c []))
      ⊢ iprop((owes_ c (owe c []) ∗ atPos ER (sndC c h) 1 ∅ 0 ∗ at_ c (srcM c h) (srcQ h) (srcV I c h) -∗ wpB c (k ⟨⟩) Q)
        -∗ wpB c (.op (.waitDma2 s src dst hx₁ hx₂) k) Q) := by
  subst hs
  unfold dTok owes_
  rw [← credit dst]
  iintro ⟨#HR, ⟨Hat, Hc⟩, ⟨%W, HO⟩⟩ Hk
  iapply (Rounds.wp_wait_rest_token Variants.none ER (Rd I) (c : Thread nD τ) none (κ := κ (sndC c h))
      (wpE_waitDma2_eq Variants.none (c : Thread nD τ) none Set.univ) (Set.mem_univ _) () (O := 0) (W := W) (R := 0) (m := 0) (T := ∅)
      (by rw [Nat.zero_add, credit, expect_snd])) $$ [Hc HO Hat]
  · isplitr; · iapply (inv_at I κ (snd_mem c h)); iexact HR
    isplitl [Hc]; · iexact Hc
    isplitl [HO]; · iexact HO
    isplitr; · rw [MayWait_zero]; iempintro
    iexact Hat
  iintro ⟨HO, Hat, -, Hp⟩
  ihave Hp := (Entails.of_eq (rest_snd I c h)) $$ Hp
  iapply Hk
  isplitl [HO]; · iexists _; iexact HO
  isplitl [Hat]; · iexact Hat
  unfold sndPay; iexact Hp

/-- Signalling a neighbour: it is handed the planes its copies land in here. -/
theorem wp_sig {α : Type} {Q : α → sProp 𝕄} (c : Dev nD) (b : Bool) (O : CellTallies nD τ sig Unit) (dev : Dev nD) (hdev : dev = nb c b)
    {k : PUnit → Prog (TpuEff nD τ sig (Elt F) Λ₀ .tc) α} :
    iprop(recs I κ ∗ dutyTok ER (barC (nb c b)) 0 (!b) ∗ barPay (F := F) (nb c b) (!b) ∗ owes_ c (O + tallyAt (barC (nb c b)) () 1))
      ⊢ iprop((owes_ c O -∗ wpB c (k ⟨⟩) Q) -∗ wpB c (.op (.semSignal (dev : Thread nD τ) bS 1) k) Q) := by
  subst hdev
  unfold owes_
  iintro ⟨#HR, Ht, Hp, ⟨%W, HO⟩⟩ Hk
  iapply (Rounds.wp_signal Variants.none ER (Rd I) (c : Thread nD τ) none (dst := ((nb c b : Dev nD) : Thread nD τ)) (sem := bS) (r := 0) (d := !b) (κ := κ (barC (nb c b)))
      (by rw [duties_bar]; exact Finset.mem_univ _) (amount_bar I (nb c b) _) () O rfl) $$ [Ht Hp HO]
  · isplitr; · iapply (inv_at I κ (bar_mem (nb c b))); iexact HR
    isplitl [HO]; · iexact HO
    isplitl [Ht]; · iexact Ht
    isplitl [Hp]; · rw [payload_bar]; iexact Hp
    iapply (reached_bar I κ (nb c b)); iexact HR
  iintro HO
  iapply Hk
  iexists W; iexact HO

/-- Waiting for both neighbours' signals. -/
theorem wp_bar {α : Type} {Q : α → sProp 𝕄} (c : Dev nD) {k : PUnit → Prog (TpuEff nD τ sig (Elt F) Λ₀ .tc) α} :
    iprop(recs I κ ∗ levAts L lv ∗ atPos ER (barC c) 0 ∅ 0 ∗ cred (tallyAt (barC c) () 2) ∗ owes_ c (owe c allCopies))
      ⊢ iprop((owes_ c (owe c allCopies) ∗ atPos ER (barC c) 1 ∅ 0 ∗ barPay (F := F) c true ∗ barPay (F := F) c false -∗ wpB c (k ⟨⟩) Q)
        -∗ wpB c (.op (.semWait bS 2) k) Q) := by
  unfold owes_
  iintro ⟨#HR, #Hlev, Hat, Hc, ⟨%W, HO⟩⟩ Hk
  iapply (Rounds.wp_wait_rest_token Variants.none ER (Rd I) (c : Thread nD τ) none (κ := κ (barC c))
      (wpE_semWait_eq Variants.none (c : Thread nD τ) none Set.univ) (Set.mem_univ _) () (O := owe c allCopies) (W := W) (R := 0) (m := 0) (T := ∅)
      ((Nat.zero_add _).trans (expect_bar I c).symm)) $$ [Hc HO Hat]
  · isplitr; · iapply (inv_at I κ (bar_mem c)); iexact HR
    isplitl [Hc]; · iexact Hc
    isplitl [HO]; · iexact HO
    isplitr; · iapply (mayWait_of (F := F) c _ 1 (lv_bar c ()) allCopies (by decide)); iexact Hlev
    iexact Hat
  iintro ⟨HO, Hat, -, Hp⟩
  ihave Hp := (Entails.of_eq (rest_bar I c)) $$ Hp
  icases Hp with ⟨H1, H2⟩
  iapply Hk
  isplitl [HO]; · iexists _; iexact HO
  isplitl [Hat]; · iexact Hat
  isplitl [H1] <;> iassumption

end Cert.KernelIdealProof
-- ==== Proof.Planes.lean ====
module

public import proofs.«01_k».proof.Proof.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The two stacks as their planes -/

/-- An index lies in plane `i` of a stack when its first coordinate is `i`. -/
theorem mem_plane {n : ℕ} (i : ℕ) (inb : ∀ a, (![i, 0, 0] : Fin 3 → ℕ) a + S1x128x1024.size a ≤ (⟨3, ![n, 128, 1024]⟩ : Shape).size a)
    (y : (⟨3, ![n, 128, 1024]⟩ : Shape).Idx) : y ∈ (Rect.unit (s := ⟨3, ![n, 128, 1024]⟩) ![i, 0, 0] S1x128x1024.size inb).set ↔ (y 0).val = i := by
  rw [Rect.mem_set_unit]
  have h1 : (y 1).val < 128 := (y 1).isLt
  have h2 : (y 2).val < 1024 := (y 2).isLt
  constructor
  · intro H; have a0 : i ≤ (y 0).val ∧ (y 0).val < i + 1 := H 0; omega
  · intro H a; fin_cases a
    · show i ≤ (y 0).val ∧ (y 0).val < i + 1; omega
    · show 0 ≤ (y 1).val ∧ (y 1).val < 0 + 128; omega
    · show 0 ≤ (y 2).val ∧ (y 2).val < 0 + 1024; omega

/-- A chunk's elements are a plane of the accumulator. -/
theorem acc_set (i : Fin 8) : (accS i).view.set = (Rect.unit (s := S8x128x1024) ![i.val, 0, 0] S1x128x1024.size (inb_acc i)).set :=
  (slot_set accM (inb_acc i)).trans (View.set_slice_whole cc0_scratch0 _)
/-- The indices of one plane. -/
def accP (i : Fin 8) : Finset S8x128x1024.Idx := (Rect.unit (s := S8x128x1024) ![i.val, 0, 0] S1x128x1024.size (inb_acc i)).set
/-- An element is in a chunk if its first coordinate is the chunk's number. -/
theorem mem_acc (i : Fin 8) (y : S8x128x1024.Idx) : y ∈ accP i ↔ (y 0).val = i.val := mem_plane i.val (inb_acc i) y
/-- Different chunks share no element. -/
theorem acc_disjoint : ∀ i i' : Fin 8, i ≠ i' → Disjoint (accP i) (accP i') := by
  intro i i' hne; rw [Finset.disjoint_left]; intro y hy hy'
  exact hne (Fin.ext (((mem_acc i y).mp hy).symm.trans ((mem_acc i' y).mp hy')))
/-- The chunks make up the accumulator. -/
theorem acc_cover : (Finset.univ : Finset (Fin 8)).biUnion accP = Finset.univ := by
  ext y; simp only [Finset.mem_biUnion, Finset.mem_univ, true_and, iff_true]
  exact ⟨(y 0).cast (by decide), (mem_acc _ y).mpr rfl⟩
/-- A chunk with unknown contents, as its plane of the accumulator. -/
theorem any_acc (c : Dev nD) (i : Fin 8) : any_ (F := F) c (accS i)
    = (iprop(∃ f : Buf (Elt F) ((c : Thread nD τ).loc cc0_scratch0), ((c : Thread nD τ).loc cc0_scratch0) ↦[accP i]{fullShare} f) : sProp 𝕄) := by
  show (iprop(∃ f : Buf (Elt F) ((c : Thread nD τ).loc cc0_scratch0), ((c : Thread nD τ).loc cc0_scratch0) ↦[(accS i).view.set]{fullShare} f) : sProp 𝕄) = _
  rw [acc_set]; rfl
/-- A chunk's plane with some contents is the chunk with unknown contents. -/
theorem acc_some (c : Dev nD) (i : Fin 8) (f : Buf (Elt F) ((c : Thread nD τ).loc cc0_scratch0)) : (((c : Thread nD τ).loc cc0_scratch0) ↦[accP i]{fullShare} f : sProp 𝕄) ⊢ any_ (F := F) c (accS i) := by
  rw [any_acc]; iintro H; iexists f; iexact H
/-- The stack whole is its planes. -/
theorem acc_planes (c : Dev nD) : (iprop(∃ f : Buf (Elt F) ((c : Thread nD τ).loc cc0_scratch0), ((c : Thread nD τ).loc cc0_scratch0) ↦{fullShare} f) : sProp 𝕄)
    ⊢ bigSep Finset.univ fun i => any_ (F := F) c (accS i) := by
  iintro ⟨%f, H⟩
  ihave H := (Entails.of_eq (Ring.pointsTo_blocks (Ix := Unit) (Name := ℕ) (U := UU) (Lvl := ℕ) (q := fullShare) (ℓ := (c : Thread nD τ).loc cc0_scratch0) accP acc_disjoint acc_cover f)) $$ H
  have e : (bigSep Finset.univ fun i => (((c : Thread nD τ).loc cc0_scratch0) ↦[accP i]{fullShare} f : sProp 𝕄)) ⊢ bigSep Finset.univ fun i => any_ (F := F) c (accS i) :=
    bigSep_mono fun i _ => acc_some c i f
  iapply e; iexact H
/-- The planes together are the stack whole. -/
theorem acc_stack (c : Dev nD) : (bigSep Finset.univ fun i => any_ (F := F) c (accS i))
    ⊢ (iprop(∃ f : Buf (Elt F) ((c : Thread nD τ).loc cc0_scratch0), ((c : Thread nD τ).loc cc0_scratch0) ↦{fullShare} f) : sProp 𝕄) := by
  rw [bigSep_congr fun i _ => any_acc c i]
  exact Ring.pointsTo_blocks_join_exists (ℓ := (c : Thread nD τ).loc cc0_scratch0) accP acc_disjoint acc_cover (fun _ => Classical.arbitrary _)

/-- A slot's elements are a plane of the landing buffer. -/
theorem com_set (i : Fin 12) : (comS i).view.set = (Rect.unit (s := S12x128x1024) ![i.val, 0, 0] S1x128x1024.size (inb_com i)).set :=
  (slot_set comM (inb_com i)).trans (View.set_slice_whole cc0_scratch1 _)
/-- The indices of one plane. -/
def comP (i : Fin 12) : Finset S12x128x1024.Idx := (Rect.unit (s := S12x128x1024) ![i.val, 0, 0] S1x128x1024.size (inb_com i)).set
/-- An element is in a slot if its first coordinate is the slot's number. -/
theorem mem_com (i : Fin 12) (y : S12x128x1024.Idx) : y ∈ comP i ↔ (y 0).val = i.val := mem_plane i.val (inb_com i) y
/-- Different slots share no element. -/
theorem com_disjoint : ∀ i i' : Fin 12, i ≠ i' → Disjoint (comP i) (comP i') := by
  intro i i' hne; rw [Finset.disjoint_left]; intro y hy hy'
  exact hne (Fin.ext (((mem_com i y).mp hy).symm.trans ((mem_com i' y).mp hy')))
/-- The slots make up the landing buffer. -/
theorem com_cover : (Finset.univ : Finset (Fin 12)).biUnion comP = Finset.univ := by
  ext y; simp only [Finset.mem_biUnion, Finset.mem_univ, true_and, iff_true]
  exact ⟨(y 0).cast (by decide), (mem_com _ y).mpr rfl⟩
/-- A slot with unknown contents, as its plane of the landing buffer. -/
theorem any_com (c : Dev nD) (i : Fin 12) : any_ (F := F) c (comS i)
    = (iprop(∃ f : Buf (Elt F) ((c : Thread nD τ).loc cc0_scratch1), ((c : Thread nD τ).loc cc0_scratch1) ↦[comP i]{fullShare} f) : sProp 𝕄) := by
  show (iprop(∃ f : Buf (Elt F) ((c : Thread nD τ).loc cc0_scratch1), ((c : Thread nD τ).loc cc0_scratch1) ↦[(comS i).view.set]{fullShare} f) : sProp 𝕄) = _
  rw [com_set]; rfl
/-- A slot's plane with some contents is the slot with unknown contents. -/
theorem com_some (c : Dev nD) (i : Fin 12) (f : Buf (Elt F) ((c : Thread nD τ).loc cc0_scratch1)) : (((c : Thread nD τ).loc cc0_scratch1) ↦[comP i]{fullShare} f : sProp 𝕄) ⊢ any_ (F := F) c (comS i) := by
  rw [any_com]; iintro H; iexists f; iexact H
/-- The stack whole is its planes. -/
theorem com_planes (c : Dev nD) : (iprop(∃ f : Buf (Elt F) ((c : Thread nD τ).loc cc0_scratch1), ((c : Thread nD τ).loc cc0_scratch1) ↦{fullShare} f) : sProp 𝕄)
    ⊢ bigSep Finset.univ fun i => any_ (F := F) c (comS i) := by
  iintro ⟨%f, H⟩
  ihave H := (Entails.of_eq (Ring.pointsTo_blocks (Ix := Unit) (Name := ℕ) (U := UU) (Lvl := ℕ) (q := fullShare) (ℓ := (c : Thread nD τ).loc cc0_scratch1) comP com_disjoint com_cover f)) $$ H
  have e : (bigSep Finset.univ fun i => (((c : Thread nD τ).loc cc0_scratch1) ↦[comP i]{fullShare} f : sProp 𝕄)) ⊢ bigSep Finset.univ fun i => any_ (F := F) c (comS i) :=
    bigSep_mono fun i _ => com_some c i f
  iapply e; iexact H
/-- The planes together are the stack whole. -/
theorem com_stack (c : Dev nD) : (bigSep Finset.univ fun i => any_ (F := F) c (comS i))
    ⊢ (iprop(∃ f : Buf (Elt F) ((c : Thread nD τ).loc cc0_scratch1), ((c : Thread nD τ).loc cc0_scratch1) ↦{fullShare} f) : sProp 𝕄) := by
  rw [bigSep_congr fun i _ => any_com c i]
  exact Ring.pointsTo_blocks_join_exists (ℓ := (c : Thread nD τ).loc cc0_scratch1) comP com_disjoint com_cover (fun _ => Classical.arbitrary _)

end Cert.KernelIdealProof
-- ==== Proof.Run1.lean ====
module

public import proofs.«01_k».proof.Proof.Vals

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What a pair's computation reads and overwrites: the rows, keys, values and rounded projections, and the two work buffers. -/
def work (c : Dev nD) (x : Vec F S1024x1024 .f32) (k v wq wo : Vec F S1024x1024 .bf16) : sProp 𝕄 :=
  iprop(at_ c xM fullShare x ∗ at_ c kM fullShare k ∗ at_ c vM fullShare v ∗ at_ c wqbM fullShare wq ∗ at_ c wobM fullShare wo ∗ any_ c ctxM ∗ any_ c xpM)

/-- The body from its third part to its thirteenth: the first pair's computation. -/
def stretch1 (d0 : Dev nD) (v2 : BitVec 32) (v25 : IVec S256x1 32) (v50 : IVec S256x512 32) (v75 : IVec S128x512 32) (c8_i32 : BitVec 32)
   (K : IVec S128x512 32 → BitVec 32 → FVec F S256x1024 .f32 → FVec F S128x1024 .bf16 → Prog (TpuEff nD τ sig (Elt F) Λ₀ .tc) PUnit) : Prog (TpuEff nD τ sig (Elt F) Λ₀ .tc) PUnit := do
  let ⟨v77, v80, v83, v103, v110, c64_i32_48, v111⟩ : Σ' (v77 : IVec S128x512 32) (v80 : BitVec 32) (v83 : BitVec 32) (v103 : FVec F S256x1024 .bf16) (v110 : IVec S256x1 32) (c64_i32_48 : BitVec 32), IVec S256x1 32 ← k0_part3 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v25 v75 c8_i32
  let ⟨v139, v145, v153, v155⟩ : Σ' (v139 : FVec F S256x512 .f32) (v145 : FVec F S128x512 .f32) (v153 : FVec F S128x512 .f32), FVec F S256x512 .f32 ← k0_part4 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v50 v77 v103 v110 c64_i32_48 v111
  let ⟨v195, v196⟩ : Σ' (v195 : FVec F S256x512 .f32), FVec F S128x128 .bf16 ← k0_part5 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v145 v153 v155
  k0_part6 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v139 v145 v195 v196
  let ⟨v277, v278⟩ : Σ' (v277 : FVec F S128x128 .f32), FVec F S128x128 .f32 ← k0_part7 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v139 v145
  let ⟨v303, v307, v314, v318⟩ : Σ' (v303 : FVec F S256x128 .f32) (v307 : FVec F S128x128 .f32) (v314 : FVec F S128x1 .f32), FVec F S128x128 .bf16 ← k0_part8 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v139 v145 v277 v278
  let ⟨v349, v353, v356, v358⟩ : Σ' (v349 : FVec F S256x128 .f32) (v353 : FVec F S128x128 .f32) (v356 : FVec F S128x1 .f32), FVec F S128x1 .f32 ← k0_part9 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v139 v145 v303 v307 v314 v318
  let ⟨v389, v391, v395, v396, v398⟩ : Σ' (v389 : FVec F S256x1 .f32) (v391 : FVec F S128x1 .f32) (v395 : FVec F S256x128 .f32) (v396 : FVec F S128x512 .bf16), FVec F S512x128 .bf16 ← k0_part10 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v139 v145 v349 v353 v356 v358
  let ⟨v433, v435, v437, v438, v439⟩ : Σ' (v433 : FVec F S128x512 .f32) (v435 : FVec F S256x1 .f32) (v437 : FVec F S128x1 .f32) (v438 : FVec F S256x512 .bf16), Vec F S512x128 .bf16 ← k0_part11 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v139 v145 v389 v391 v395 v396 v398
  let ⟨v477, v479, v480⟩ : Σ' (v477 : FVec F S256x512 .f32) (v479 : FVec F S128x512 .f32), FVec F S256 .f32 ← k0_part12 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v103 v139 v145 v433 v435 v437 v438 v439
  let ⟨v516, v518⟩ : Σ' (v516 : FVec F S256x1024 .f32), FVec F S128x1024 .bf16 ← k0_part13 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v80 v477 v479 v480
  K v77 v83 v516 v518

set_option maxRecDepth 65536 in
set_option maxHeartbeats 0 in
/-- The first pair's computation leaves the pair's product, whole and its upper chunk, to what follows. -/
theorem run1 (c : Dev nD) (K : IVec S128x512 32 → BitVec 32 → FVec F S256x1024 .f32 → FVec F S128x1024 .bf16 → Prog (TpuEff nD τ sig (Elt F) Λ₀ .tc) PUnit) (Q : PUnit → sProp 𝕄)
   (x : Vec F S1024x1024 .f32) (k v wq wo : Vec F S1024x1024 .bf16) :
   iprop(work c x k v wq wo ∗ (work c x k v wq wo -∗
      wp frame (wpE (defs₀ (F := F)) Variants.none (c : Thread nD τ) none) Set.univ
        (K colHi (ccwW (place c) 0#32) (oPair c 0 x wq k v wo) (oTop (oPair c 0 x wq k v wo))) Q))
   ⊢ wp frame (wpE (defs₀ (F := F)) Variants.none (c : Thread nD τ) none) Set.univ (stretch1 c (place c) iota0 colLo colHi0 8#32 K) Q := by
  unfold work
  iintro ⟨⟨Hx, Hk, Hv, Hwq, Hwo, ⟨%fc, Hctx⟩, ⟨%fp, Hxp⟩⟩, HK⟩
  unfold stretch1
  sl_exec_parts
  iapply HK
  isplitl [Hx]; · iexact Hx
  isplitl [Hk]; · iexact Hk
  isplitl [Hv]; · iexact Hv
  isplitl [Hwq]; · iexact Hwq
  isplitl [Hwo]; · iexact Hwo
  isplitl [Hctx]; · iexists _; iexact Hctx
  iexists _; iexact Hxp

end Cert.KernelIdealProof
-- ==== Proof.Run2.lean ====
module

public import proofs.«01_k».proof.Proof.Proto
public import proofs.«01_k».proof.Proof.Run1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What the computations read and overwrite, on a device with these blocks. -/
abbrev workI (I : Dev nD → Blocks F) (c : Dev nD) : sProp 𝕄 := work c (I c).x (I c).k (I c).v (wqB (I c)) (woB (I c))

/-- The body's fourteenth to twenty-fifth part: the first pair's chunks set off, the second pair's computation. -/
def stretch2 (d0 : Dev nD) (v2 v5 v7 : BitVec 32) (v25 : IVec S256x1 32) (v50 : IVec S256x512 32) (v77 : IVec S128x512 32) (v83 : BitVec 32) (v516 : FVec F S256x1024 .f32) (v518 : FVec F S128x1024 .bf16)
   (K : BitVec 32 → BitVec 32 → FVec F S256x1024 .f32 → Prog (TpuEff nD τ sig (Elt F) Λ₀ .tc) PUnit) : Prog (TpuEff nD τ sig (Elt F) Λ₀ .tc) PUnit := do
  k0_part14 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7 v83 v516 v518
  let ⟨v557, v560, v580, v582, v584, v585⟩ : Σ' (v557 : BitVec 32) (v560 : BitVec 32) (v580 : FVec F S256x1024 .bf16) (v582 : IVec S256x1 1) (v584 : IVec S256x1 32), IVec S256x1 32 ← k0_part15 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v25
  let ⟨v616, v622, v626, v627, v629⟩ : Σ' (v616 : FVec F S256x512 .f32) (v622 : FVec F S128x512 .f32) (v626 : FVec F S256x512 .f32) (v627 : FVec F S128x128 .bf16), FVec F S512x128 .bf16 ← k0_part16 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v25 v50 v77 v580 v582 v584 v585
  let ⟨v669, v670⟩ : Σ' (v669 : FVec F S256x128 .bf16), Vec F S512x128 .bf16 ← k0_part17 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v622 v626 v627 v629
  let v711 : FVec F S128x128 .bf16 ← k0_part18 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v616 v622 v669 v670
  let ⟨v734, v738, v745, v752⟩ : Σ' (v734 : FVec F S256x128 .f32) (v738 : FVec F S128x128 .f32) (v745 : FVec F S128x1 .f32), FVec F S128x128 .bf16 ← k0_part19 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v622 v711
  let ⟨v780, v784, v787, v791, v792⟩ : Σ' (v780 : FVec F S256x128 .f32) (v784 : FVec F S128x128 .f32) (v787 : FVec F S128x1 .f32) (v791 : FVec F S128x1 .f32), FVec F S128x128 .f32 ← k0_part20 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v622 v734 v738 v745 v752
  let ⟨v820, v822, v826, v830, v831, cst_371⟩ : Σ' (v820 : FVec F S256x1 .f32) (v822 : FVec F S128x1 .f32) (v826 : FVec F S256x128 .f32) (v830 : FVec F S128x128 .f32) (v831 : FVec F S128x1 .f32), F .f32 ← k0_part21 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v622 v780 v784 v787 v791 v792
  let ⟨v866, v868, v872, v873⟩ : Σ' (v866 : FVec F S256x1 .f32) (v868 : FVec F S128x1 .f32) (v872 : FVec F S256x128 .f32), FVec F S128x512 .bf16 ← k0_part22 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v622 v820 v822 v826 v830 v831 cst_371
  let ⟨v908, v910, v912, v914⟩ : Σ' (v908 : FVec F S256x512 .f32) (v910 : FVec F S128x512 .f32) (v912 : FVec F S256x1 .f32), FVec F S128x1 .f32 ← k0_part23 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v622 v866 v868 v872 v873
  let ⟨v952, v954⟩ : Σ' (v952 : FVec F S128x512 .f32), FVec F S256x512 .f32 ← k0_part24 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v580 v616 v908 v910 v912 v914
  let v993 : FVec F S256x1024 .f32 ← k0_part25 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v622 v952 v954
  K v557 v560 v993

variable (I : Dev nD → Blocks F) (κ : GSem nD τ sig → ℕ)

set_option maxRecDepth 65536 in
set_option maxHeartbeats 0 in
/-- The first pair's chunks set off and the second pair's product made. -/
theorem run2 (c : Dev nD) (v5 v7 v83 : BitVec 32) (K : BitVec 32 → BitVec 32 → FVec F S256x1024 .f32 → Prog (TpuEff nD τ sig (Elt F) Λ₀ .tc) PUnit) (Q : PUnit → sProp 𝕄) :
   iprop(recs I κ ∗ workI I c ∗ any_ (F := F) c (accS (cwF c 0)) ∗ any_ (F := F) c (accS (ccwF c 0))
      ∗ landing (F := F) (tg 0 c) 0 ∗ landing (F := F) (tg 3 c) 3 ∗ sTok c 0 ∗ sTok c 3 ∗ owes_ c (owe c allCopies)
      ∗ (workI I c ∗ cred (tallyAt (sndC c 0) () N) ∗ cred (tallyAt (sndC c 3) () N) ∗ owes_ c (owe c [1, 4, 2, 5, 6, 7, 8, 9, 10, 11]) -∗
          wpB c (K (cwW (place c) 1#32) (ccwW (place c) 1#32) (oPair c 1 (I c).x (wqB (I c)) (I c).k (I c).v (woB (I c)))) Q))
   ⊢ wpB c (stretch2 c (place c) v5 v7 iota0 colLo colHi v83 (oPair c 0 (I c).x (wqB (I c)) (I c).k (I c).v (woB (I c)))
        (oTop (oPair c 0 (I c).x (wqB (I c)) (I c).k (I c).v (woB (I c)))) K) Q := by
  iintro ⟨#HR, Hw, Ha0, Hb0, HL0, HL3, HT0, HT3, HO, HK⟩
  ihave Ha0 := (any_at c _) $$ Ha0
  icases Ha0 with ⟨%Xa, Ha0⟩
  ihave Hb0 := (any_at c _) $$ Hb0
  icases Hb0 with ⟨%Xb, Hb0⟩
  unfold stretch2
  rw [k0_part14_eq_skeleton, k0_part15_eq_skeleton]
  unfold k0_part14_skel k0_part15_skel
  simp only [Prog.lift, Prog.bind_op, Prog.bind_ret, Prog.pure_eq_ret, Prog.bind_assoc]
  iapply (wp_load_acc c (cwF c 0) (k0_off3_eq c 0) _ fullShare Xa) $$ Ha0
  iintro Ha0
  iapply (wp_store_acc c (cwF c 0) (k0_off3_eq c 0) _ Xa (A I 0 c) _ rfl) $$ Ha0
  iintro Ha0
  iapply (wp_load_acc c (ccwF c 0) (k0_off4_eq c 0) _ fullShare Xb) $$ Hb0
  iintro Hb0
  iapply (wp_store_acc c (ccwF c 0) (k0_off4_eq c 0) _ Xb (B I 0 c) _ rfl) $$ Hb0
  iintro Hb0
  iapply (wp_snd I κ c 0 [3, 1, 4, 2, 5, 6, 7, 8, 9, 10, 11] _ (Fin.ext (k0_dev3_eq c)) _ (slotOf_congr accM _ (k0_off5_eq c 0) _) _ rfl _ _ rfl rfl) $$ [Ha0 HL0 HT0 HO]
  · isplitr; · iexact HR
    isplitl [Ha0]; · iexact Ha0
    isplitl [HL0]; · iexact HL0
    isplitl [HT0]; · iexact HT0
    iexact HO
  iintro ⟨Hc0, HO⟩
  iapply (wp_snd I κ c 3 [1, 4, 2, 5, 6, 7, 8, 9, 10, 11] _ (Fin.ext (k0_dev4_eq c)) _ (slotOf_congr accM _ (k0_off6_eq c 0) _) _ rfl _ _ rfl rfl) $$ [Hb0 HL3 HT3 HO]
  · isplitr; · iexact HR
    isplitl [Hb0]; · iexact Hb0
    isplitl [HL3]; · iexact HL3
    isplitl [HT3]; · iexact HT3
    iexact HO
  iintro ⟨Hc3, HO⟩
  unfold workI work
  icases Hw with ⟨Hx, Hk, Hv, Hwq, Hwo, ⟨%fc, Hctx⟩, ⟨%fp, Hxp⟩⟩
  unfold wpB
  sl_exec
  iapply HK
  isplitl [Hx Hk Hv Hwq Hwo Hctx Hxp]
  · isplitl [Hx]; · iexact Hx
    isplitl [Hk]; · iexact Hk
    isplitl [Hv]; · iexact Hv
    isplitl [Hwq]; · iexact Hwq
    isplitl [Hwo]; · iexact Hwo
    isplitl [Hctx]; · iexists _; iexact Hctx
    iexists _; iexact Hxp
  isplitl [Hc0]; · iexact Hc0
  isplitl [Hc3]; · iexact Hc3
  iexact HO

end Cert.KernelIdealProof
-- ==== Proof.Run0.lean ====
module

public import proofs.«01_k».proof.Proof.Run2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A buffer held at some contents holds some vector. -/
theorem any_rep (c : Dev nD) {s : Shape} {e : EltTy} (m : Memref sig .tc .vmem s e) : any_ (F := F) c m ⊢ iprop(∃ X : Vec F s e, at_ c m fullShare X) := by
  iintro ⟨%f, H⟩
  iexists (m.view.read (Elt F) f)
  iapply (pointsTo_rep_of_read (c : Thread nD τ) m f fullShare (m.view.read (Elt F) f) rfl) $$ H
/-- A buffer after a store of its own sizes holds what was stored. -/
theorem stored_whole (c : Dev nD) {s : Shape} {e : EltTy} (m : Memref sig .tc .vmem s e) (f : Buf (Elt F) (m.view.loc (c : Thread nD τ))) {off : Fin s.rank → ℕ}
    (inb : ∀ a, off a + s.size a ≤ s.size a) (w : (Rect.unit off s.size inb).shape.Idx → Elt F e) :
    (m.view.loc (c : Thread nD τ) ↦[m.view.set]{fullShare} m.view.writes (Elt F) f [⟨Rect.unit off s.size inb, w⟩] : sProp 𝕄) ⊢ at_ c m fullShare w :=
  pointsTo_rep_of_read (c : Thread nD τ) m _ fullShare w (View.read_writes_full m.view f inb w [])

/-- The body's first two parts: the neighbours met, the two projections rounded once. -/
def stretch0 (K : Dev nD → BitVec 32 → BitVec 32 → BitVec 32 → IVec S256x1 32 → IVec S256x512 32 → IVec S128x512 32 → BitVec 32 → Prog (TpuEff nD τ sig (Elt F) Λ₀ .tc) PUnit) : Prog (TpuEff nD τ sig (Elt F) Λ₀ .tc) PUnit := do
  let ⟨d0, v2, v5, v7, v25, v26, c64_i32, v28, c0_i32_17⟩ : Σ' (d0 : Dev nD) (v2 : BitVec 32) (v5 : BitVec 32) (v7 : BitVec 32) (v25 : IVec S256x1 32) (v26 : IVec S256x512 32) (c64_i32 : BitVec 32) (v28 : IVec S256x512 32), BitVec 32 ← k0_part1 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _)
  let ⟨v50, v75, c8_i32⟩ : Σ' (v50 : IVec S256x512 32) (v75 : IVec S128x512 32), BitVec 32 ← k0_part2 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v26 c64_i32 v28 c0_i32_17
  K d0 v2 v5 v7 v25 v50 v75 c8_i32

variable (I : Dev nD → Blocks F) (κ : GSem nD τ sig → ℕ)

set_option maxRecDepth 65536 in
set_option maxHeartbeats 0 in
/-- The neighbours' landing planes come in, the two projections are held rounded. -/
theorem run0 (c : Dev nD) (K : Dev nD → BitVec 32 → BitVec 32 → BitVec 32 → IVec S256x1 32 → IVec S256x512 32 → IVec S128x512 32 → BitVec 32 → Prog (TpuEff nD τ sig (Elt F) Λ₀ .tc) PUnit) (Q : PUnit → sProp 𝕄) :
   iprop(recs I κ ∗ levAts L lv ∗ at_ c wqM fullShare (I c).wq ∗ at_ c woM fullShare (I c).wo ∗ any_ (F := F) c wqbM ∗ any_ (F := F) c wobM
      ∗ dutyTok ER (barC (nb c false)) 0 (!false) ∗ barPay (F := F) (nb c false) (!false) ∗ dutyTok ER (barC (nb c true)) 0 (!true) ∗ barPay (F := F) (nb c true) (!true)
      ∗ atPos ER (barC c) 0 ∅ 0 ∗ cred (tallyAt (barC c) () 2) ∗ owes_ c (O₀ c)
      ∗ (∀ v5 v7, at_ c wqM fullShare (I c).wq ∗ at_ c woM fullShare (I c).wo ∗ at_ c wqbM fullShare (wqB (I c)) ∗ at_ c wobM fullShare (woB (I c))
          ∗ owes_ c (owe c allCopies) ∗ atPos ER (barC c) 1 ∅ 0 ∗ barPay (F := F) c true ∗ barPay (F := F) c false -∗
          wpB c (K c (place c) v5 v7 iota0 colLo colHi0 8#32) Q))
   ⊢ wpB c (stretch0 K) Q := by
  iintro ⟨#HR, #Hlev, Hwq, Hwo, Hwqb, Hwob, HS1, HP1, HS2, HP2, Hat, Hc, HO, HK⟩
  ihave Hwqb := (any_rep c wqbM) $$ Hwqb
  icases Hwqb with ⟨%f1, Hwqb⟩
  ihave Hwob := (any_rep c wobM) $$ Hwob
  icases Hwob with ⟨%f2, Hwob⟩
  unfold stretch0
  rw [k0_part1_eq_skeleton, k0_part2_eq_skeleton]
  unfold k0_part1_skel k0_part2_skel
  simp only [Prog.lift, Prog.bind_op, Prog.bind_ret, Prog.pure_eq_ret, Prog.bind_assoc]
  unfold wpB
  rw [wp_deviceId]
  dsimp only
  unfold semSignalWord semWaitWord
  simp only [Prog.lift, Prog.bind_op, Prog.bind_ret, Prog.pure_eq_ret, Prog.bind_assoc]
  iapply (wp_sig I κ c false (owe c allCopies + tallyAt (barC (rt c)) () 1) _ (Fin.ext (k0_dev1_eq c))) $$ [HS1 HP1 HO]
  · isplitr; · iexact HR
    isplitl [HS1]; · iexact HS1
    isplitl [HP1]; · iexact HP1
    iexact HO
  iintro HO
  iapply (wp_sig I κ c true (owe c allCopies) _ (Fin.ext (k0_dev2_eq c))) $$ [HS2 HP2 HO]
  · isplitr; · iexact HR
    isplitl [HS2]; · iexact HS2
    isplitl [HP2]; · iexact HP2
    iexact HO
  iintro HO
  iapply (wp_bar I κ c) $$ [Hat Hc HO]
  · isplitr; · iexact HR
    isplitr; · iexact Hlev
    isplitl [Hat]; · iexact Hat
    isplitl [Hc]; · iexact Hc
    iexact HO
  iintro ⟨HO, Hat, HB1, HB2⟩
  unfold wpB
  sl_exec
  have e1 : k0_pay4 (iota Kind.tc S256x512 32 [1] iota_S256x512_d1_w32) (64#32) k0_pay3 0#32 = colLo := rfl
  have e2 : k0_pay5 = colHi0 := rfl
  have e3 : Scalar.remsi (Scalar.divsi (Dev.word c) 1#32) 4#32 = place c := rfl
  have e4 : iota Kind.tc S256x1 32 [0] iota_S256x1_d0_w32 = iota0 := rfl
  rw [e1, e2, e3, e4]
  iapply HK
  ihave Hwqb := (stored_whole c wqbM _ _ _) $$ Hwqb
  ihave Hwob := (stored_whole c wobM _ _ _) $$ Hwob
  isplitl [Hwq]; · iexact Hwq
  isplitl [Hwo]; · iexact Hwo
  isplitl [Hwqb]; · iexact Hwqb
  isplitl [Hwob]; · iexact Hwob
  isplitl [HO]; · iexact HO
  isplitl [Hat]; · iexact Hat
  isplitl [HB1]; · iexact HB1
  iexact HB2

end Cert.KernelIdealProof
-- ==== Proof.Run3.lean ====
module

public import proofs.«01_k».proof.Proof.Run2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Two planes added entry by entry are the plane of the two chunks' sum. -/
theorem add_up (X Y : Vec F S128x1024 .bf16) : k0_pay172 (up X) (up Y) = up (addf X Y) := by
  show up (addf (down (up X)) (down (up Y))) = _
  rw [down_up, down_up]

/-- The body's twenty-sixth to thirty-ninth part: the second pair's chunks take in the first landings and set off, the third pair's computation. -/
def stretch3 (d0 : Dev nD) (v2 v5 v7 : BitVec 32) (v25 : IVec S256x1 32) (v50 : IVec S256x512 32) (v77 : IVec S128x512 32) (v557 v560 : BitVec 32) (v993 : FVec F S256x1024 .f32)
   (K : Prog (TpuEff nD τ sig (Elt F) Λ₀ .tc) PUnit) : Prog (TpuEff nD τ sig (Elt F) Λ₀ .tc) PUnit := do
  let v1024 : BitVec 32 ← k0_part26 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7 v557 v560 v993
  let ⟨v1054, c0_i32_493⟩ : Σ' (v1054 : BitVec 32), BitVec 32 ← k0_part27 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v7 v1024
  let ⟨v1076, v1079, v1080, v1081, v1088⟩ : Σ' (v1076 : BitVec 32) (v1079 : BitVec 32) (v1080 : BitVec 32) (v1081 : BitVec 32), FVec F S128x1024 .bf16 ← k0_part28 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v1054 c0_i32_493
  let ⟨v1099, v1108, v1127, v1129⟩ : Σ' (v1099 : FVec F S256x1024 .bf16) (v1108 : IVec S256x1 32) (v1127 : IVec S256x1 1), IVec S256x1 32 ← k0_part29 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v25 v1080 v1081 v1088
  let ⟨v1135, v1141, v1161, v1165, v1168, v1170⟩ : Σ' (v1135 : FVec F S256x512 .f32) (v1141 : FVec F S128x512 .f32) (v1161 : FVec F S256x128 .f32) (v1165 : FVec F S128x128 .f32) (v1168 : FVec F S128x1 .f32), FVec F S128x1 .f32 ← k0_part30 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v50 v77 v1099 v1108 v1127 v1129
  let ⟨v1201, v1203, v1207, v1208, v1210⟩ : Σ' (v1201 : FVec F S256x1 .f32) (v1203 : FVec F S128x1 .f32) (v1207 : FVec F S256x128 .f32) (v1208 : FVec F S128x512 .bf16), FVec F S512x128 .bf16 ← k0_part31 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1135 v1141 v1161 v1165 v1168 v1170
  let ⟨v1245, v1247, v1249, v1250, v1251⟩ : Σ' (v1245 : FVec F S128x512 .f32) (v1247 : FVec F S256x1 .f32) (v1249 : FVec F S128x1 .f32) (v1250 : FVec F S256x512 .bf16), Vec F S512x128 .bf16 ← k0_part32 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1135 v1141 v1201 v1203 v1207 v1208 v1210
  let ⟨v1289, v1291, v1292⟩ : Σ' (v1289 : FVec F S256x512 .f32) (v1291 : FVec F S128x512 .f32), FVec F S256 .f32 ← k0_part33 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1135 v1141 v1245 v1247 v1249 v1250 v1251
  let ⟨v1329, v1330, v1332⟩ : Σ' (v1329 : FVec F S256x512 .f32) (v1330 : FVec F S128x128 .bf16), FVec F S512x128 .bf16 ← k0_part34 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1289 v1291 v1292
  let ⟨v1372, v1373⟩ : Σ' (v1372 : FVec F S256x128 .bf16), Vec F S512x128 .bf16 ← k0_part35 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1135 v1141 v1329 v1330 v1332
  let v1414 : FVec F S128x128 .bf16 ← k0_part36 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1135 v1141 v1372 v1373
  let ⟨v1437, v1441, v1448, v1455⟩ : Σ' (v1437 : FVec F S256x128 .f32) (v1441 : FVec F S128x128 .f32) (v1448 : FVec F S128x1 .f32), FVec F S128x128 .bf16 ← k0_part37 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1135 v1141 v1414
  let ⟨v1483, v1487, v1490, v1494, v1495⟩ : Σ' (v1483 : FVec F S256x128 .f32) (v1487 : FVec F S128x128 .f32) (v1490 : FVec F S128x1 .f32) (v1494 : FVec F S128x1 .f32), FVec F S128x128 .f32 ← k0_part38 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1099 v1135 v1141 v1437 v1441 v1448 v1455
  k0_part39 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v7 v1076 v1079 v1483 v1487 v1490 v1494 v1495
  K

variable (I : Dev nD → Blocks F) (κ : GSem nD τ sig → ℕ)

set_option maxRecDepth 65536 in
set_option maxHeartbeats 0 in
/-- The second pair's chunks set off with the first landings added, and the third pair's product stored. -/
theorem run3 (c : Dev nD) (v5 v7 v557 v560 : BitVec 32) (K : Prog (TpuEff nD τ sig (Elt F) Λ₀ .tc) PUnit) (Q : PUnit → sProp 𝕄) :
   iprop(recs I κ ∗ levAts L lv ∗ workI I c ∗ any_ (F := F) c (accS (cwF c 1)) ∗ any_ (F := F) c (accS (ccwF c 1))
      ∗ any_ (F := F) c (accS (cwF c 2)) ∗ any_ (F := F) c (accS (ccwF c 2))
      ∗ landing (F := F) (tg 1 c) 1 ∗ landing (F := F) (tg 4 c) 4 ∗ sTok c 1 ∗ sTok c 4 ∗ rTok c 0 ∗ rTok c 3 ∗ owes_ c (owe c [1, 4, 2, 5, 6, 7, 8, 9, 10, 11])
      ∗ (workI I c ∗ cred (tallyAt (sndC c 1) () N) ∗ cred (tallyAt (sndC c 4) () N) ∗ owes_ c (owe c [2, 5, 6, 7, 8, 9, 10, 11])
          ∗ atPos ER (rcvC c 0) 1 ∅ 0 ∗ atPos ER (rcvC c 3) 1 ∅ 0 ∗ at_ c (comS 0) fullShare (rcvV I c 0) ∗ at_ c (comS 3) fullShare (rcvV I c 3)
          ∗ at_ c (accS (cwF c 2)) fullShare (PT I c 2) ∗ at_ c (accS (ccwF c 2)) fullShare (PB I c 2) -∗
          wpB c K Q))
   ⊢ wpB c (stretch3 c (place c) v5 v7 iota0 colLo colHi v557 v560 (oPair c 1 (I c).x (wqB (I c)) (I c).k (I c).v (woB (I c))) K) Q := by
  iintro ⟨#HR, #Hlev, Hw, Ha1, Hb1, Ha2, Hb2, HL1, HL4, HT1, HT4, HV0, HV3, HO, HK⟩
  ihave Ha1 := (any_at c _) $$ Ha1
  icases Ha1 with ⟨%Xa, Ha1⟩
  ihave Hb1 := (any_at c _) $$ Hb1
  icases Hb1 with ⟨%Xb, Hb1⟩
  ihave Ha2 := (any_at c _) $$ Ha2
  icases Ha2 with ⟨%Xc, Ha2⟩
  ihave Hb2 := (any_at c _) $$ Hb2
  icases Hb2 with ⟨%Xd, Hb2⟩
  unfold stretch3
  rw [k0_part26_eq_skeleton, k0_part27_eq_skeleton, k0_part28_eq_skeleton, k0_part29_eq_skeleton]
  unfold k0_part26_skel k0_part27_skel k0_part28_skel k0_part29_skel
  simp only [Prog.lift, Prog.bind_op, Prog.bind_ret, Prog.pure_eq_ret, Prog.bind_assoc]
  iapply (wp_load_acc c (cwF c 1) (k0_off3_eq c 1) _ fullShare Xa) $$ Ha1
  iintro Ha1
  iapply (wp_store_acc c (cwF c 1) (k0_off3_eq c 1) _ Xa (PT I c 1) _ rfl) $$ Ha1
  iintro Ha1
  iapply (wp_load_acc c (ccwF c 1) (k0_off4_eq c 1) _ fullShare Xb) $$ Hb1
  iintro Hb1
  iapply (wp_store_acc c (ccwF c 1) (k0_off4_eq c 1) _ Xb (PB I c 1) _ rfl) $$ Hb1
  iintro Hb1
  iapply (wp_rcv I κ c 0 [1, 4, 2, 5, 6, 7, 8, 9, 10, 11] (by decide) _ rfl) $$ [HV0 HO]
  · isplitr; · iexact HR
    isplitr; · iexact Hlev
    isplitl [HV0]; · iexact HV0
    iexact HO
  iintro ⟨HO, HE0, Hc0⟩
  iapply (wp_rcv I κ c 3 [1, 4, 2, 5, 6, 7, 8, 9, 10, 11] (by decide) _ rfl) $$ [HV3 HO]
  · isplitr; · iexact HR
    isplitr; · iexact Hlev
    isplitl [HV3]; · iexact HV3
    iexact HO
  iintro ⟨HO, HE3, Hc3⟩
  iapply (wp_load_acc c (cwF c 1) (k0_off3_eq c 1) _ fullShare (PT I c 1)) $$ Ha1
  iintro Ha1
  iapply (wp_load_com c 0 rfl _ fullShare (rcvV I c 0)) $$ Hc0
  iintro Hc0
  iapply (wp_load_acc c (cwF c 1) (k0_off3_eq c 1) _ fullShare (PT I c 1)) $$ Ha1
  iintro Ha1
  iapply (wp_store_acc c (cwF c 1) (k0_off3_eq c 1) _ (PT I c 1) (A I 1 c) _ (add_up (PT I c 1) (A I 0 (lf c)))) $$ Ha1
  iintro Ha1
  iapply (wp_load_acc c (ccwF c 1) (k0_off4_eq c 1) _ fullShare (PB I c 1)) $$ Hb1
  iintro Hb1
  iapply (wp_load_com c 3 rfl _ fullShare (rcvV I c 3)) $$ Hc3
  iintro Hc3
  iapply (wp_load_acc c (ccwF c 1) (k0_off4_eq c 1) _ fullShare (PB I c 1)) $$ Hb1
  iintro Hb1
  iapply (wp_store_acc c (ccwF c 1) (k0_off4_eq c 1) _ (PB I c 1) (B I 1 c) _ (add_up (PB I c 1) (B I 0 (rt c)))) $$ Hb1
  iintro Hb1
  iapply (wp_snd I κ c 1 [4, 2, 5, 6, 7, 8, 9, 10, 11] _ (Fin.ext (k0_dev5_eq c)) _ (slotOf_congr accM _ (k0_off5_eq c 1) _) _ rfl _ _ rfl rfl) $$ [Ha1 HL1 HT1 HO]
  · isplitr; · iexact HR
    isplitl [Ha1]; · iexact Ha1
    isplitl [HL1]; · iexact HL1
    isplitl [HT1]; · iexact HT1
    iexact HO
  iintro ⟨Hs1, HO⟩
  iapply (wp_snd I κ c 4 [2, 5, 6, 7, 8, 9, 10, 11] _ (Fin.ext (k0_dev6_eq c)) _ (slotOf_congr accM _ (k0_off6_eq c 1) _) _ rfl _ _ rfl rfl) $$ [Hb1 HL4 HT4 HO]
  · isplitr; · iexact HR
    isplitl [Hb1]; · iexact Hb1
    isplitl [HL4]; · iexact HL4
    isplitl [HT4]; · iexact HT4
    iexact HO
  iintro ⟨Hs4, HO⟩
  unfold workI work
  icases Hw with ⟨Hx, Hk, Hv, Hwq, Hwo, ⟨%fc, Hctx⟩, ⟨%fp, Hxp⟩⟩
  unfold wpB
  sl_exec
  simp only [Prog.lift, Prog.bind_op, Prog.bind_ret, Prog.pure_eq_ret, Prog.bind_assoc]
  have e : run3.sl.v1512 I c = (oPair c 2 (I c).x (wqB (I c)) (I c).k (I c).v (woB (I c))) := rfl
  iapply (wp_load_acc c (cwF c 2) (k0_off3_eq c 2) _ fullShare Xc) $$ Ha2
  iintro Ha2
  iapply (wp_store_acc c (cwF c 2) (k0_off3_eq c 2) _ Xc (PT I c 2) _ (congrArg (fun o => up (oTop o)) e)) $$ Ha2
  iintro Ha2
  iapply (wp_load_acc c (ccwF c 2) (k0_off4_eq c 2) _ fullShare Xd) $$ Hb2
  iintro Hb2
  iapply (wp_store_acc c (ccwF c 2) (k0_off4_eq c 2) _ Xd (PB I c 2) _ (congrArg (fun o => up (oBot o)) e)) $$ Hb2
  iintro Hb2
  rw [Sem.wp_ret]
  imodintro
  iapply HK
  isplitl [Hx Hk Hv Hwq Hwo Hctx Hxp]
  · isplitl [Hx]; · iexact Hx
    isplitl [Hk]; · iexact Hk
    isplitl [Hv]; · iexact Hv
    isplitl [Hwq]; · iexact Hwq
    isplitl [Hwo]; · iexact Hwo
    isplitl [Hctx]; · iexists _; iexact Hctx
    iexists _; iexact Hxp
  isplitl [Hs1]; · iexact Hs1
  isplitl [Hs4]; · iexact Hs4
  isplitl [HO]; · iexact HO
  isplitl [HE0]; · iexact HE0
  isplitl [HE3]; · iexact HE3
  isplitl [Hc0]; · iexact Hc0
  isplitl [Hc3]; · iexact Hc3
  isplitl [Ha2]; · iexact Ha2
  iexact Hb2

end Cert.KernelIdealProof
-- ==== Proof.Run4.lean ====
module

public import proofs.«01_k».proof.Proof.Run3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The body's fortieth to fifty-second part: the third pair's chunks take in the second landings and set off, the fourth pair's computation. -/
def stretch4 (d0 : Dev nD) (v2 v5 v7 : BitVec 32) (v25 : IVec S256x1 32) (v50 : IVec S256x512 32) (v77 : IVec S128x512 32)
   (K : BitVec 32 → FVec F S256x1024 .f32 → FVec F S128x1024 .bf16 → Prog (TpuEff nD τ sig (Elt F) Λ₀ .tc) PUnit) : Prog (TpuEff nD τ sig (Elt F) Λ₀ .tc) PUnit := do
  let ⟨v1546, v1559⟩ : Σ' (v1546 : BitVec 32), FVec F S128x1024 .bf16 ← k0_part40 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5
  k0_part41 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7 v1546 v1559
  let ⟨v1595, v1598, v1618, v1625, c64_i32_788, v1626⟩ : Σ' (v1595 : BitVec 32) (v1598 : BitVec 32) (v1618 : FVec F S256x1024 .bf16) (v1625 : IVec S256x1 32) (c64_i32_788 : BitVec 32), IVec S256x1 32 ← k0_part42 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v25
  let ⟨v1654, v1660, v1668, v1670⟩ : Σ' (v1654 : FVec F S256x512 .f32) (v1660 : FVec F S128x512 .f32) (v1668 : FVec F S128x512 .f32), FVec F S256x512 .f32 ← k0_part43 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v50 v77 v1618 v1625 c64_i32_788 v1626
  let ⟨v1710, v1711⟩ : Σ' (v1710 : FVec F S256x512 .f32), FVec F S128x128 .bf16 ← k0_part44 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1660 v1668 v1670
  k0_part45 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1654 v1660 v1710 v1711
  let ⟨v1792, v1793⟩ : Σ' (v1792 : FVec F S128x128 .f32), FVec F S128x128 .f32 ← k0_part46 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1654 v1660
  let ⟨v1818, v1822, v1829, v1833⟩ : Σ' (v1818 : FVec F S256x128 .f32) (v1822 : FVec F S128x128 .f32) (v1829 : FVec F S128x1 .f32), FVec F S128x128 .bf16 ← k0_part47 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1654 v1660 v1792 v1793
  let ⟨v1864, v1868, v1871, v1873⟩ : Σ' (v1864 : FVec F S256x128 .f32) (v1868 : FVec F S128x128 .f32) (v1871 : FVec F S128x1 .f32), FVec F S128x1 .f32 ← k0_part48 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1654 v1660 v1818 v1822 v1829 v1833
  let ⟨v1904, v1906, v1910, v1911, v1913⟩ : Σ' (v1904 : FVec F S256x1 .f32) (v1906 : FVec F S128x1 .f32) (v1910 : FVec F S256x128 .f32) (v1911 : FVec F S128x512 .bf16), FVec F S512x128 .bf16 ← k0_part49 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1654 v1660 v1864 v1868 v1871 v1873
  let ⟨v1948, v1950, v1952, v1953, v1954⟩ : Σ' (v1948 : FVec F S128x512 .f32) (v1950 : FVec F S256x1 .f32) (v1952 : FVec F S128x1 .f32) (v1953 : FVec F S256x512 .bf16), Vec F S512x128 .bf16 ← k0_part50 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1654 v1660 v1904 v1906 v1910 v1911 v1913
  let ⟨v1992, v1994, v1995⟩ : Σ' (v1992 : FVec F S256x512 .f32) (v1994 : FVec F S128x512 .f32), FVec F S256 .f32 ← k0_part51 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1618 v1654 v1660 v1948 v1950 v1952 v1953 v1954
  let ⟨v2031, v2033⟩ : Σ' (v2031 : FVec F S256x1024 .f32), FVec F S128x1024 .bf16 ← k0_part52 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) v1595 v1992 v1994 v1995
  K v1598 v2031 v2033

variable (I : Dev nD → Blocks F) (κ : GSem nD τ sig → ℕ)

set_option maxRecDepth 65536 in
set_option maxHeartbeats 0 in
/-- The third pair's chunks set off with the second landings added, and the fourth pair's product made. -/
theorem run4 (c : Dev nD) (v5 v7 : BitVec 32) (K : BitVec 32 → FVec F S256x1024 .f32 → FVec F S128x1024 .bf16 → Prog (TpuEff nD τ sig (Elt F) Λ₀ .tc) PUnit) (Q : PUnit → sProp 𝕄) :
   iprop(recs I κ ∗ levAts L lv ∗ workI I c ∗ at_ c (accS (cwF c 2)) fullShare (PT I c 2) ∗ at_ c (accS (ccwF c 2)) fullShare (PB I c 2)
      ∗ landing (F := F) (tg 2 c) 2 ∗ landing (F := F) (tg 5 c) 5 ∗ sTok c 2 ∗ sTok c 5 ∗ rTok c 1 ∗ rTok c 4 ∗ owes_ c (owe c [2, 5, 6, 7, 8, 9, 10, 11])
      ∗ (workI I c ∗ cred (tallyAt (sndC c 2) () N) ∗ cred (tallyAt (sndC c 5) () N) ∗ owes_ c (owe c [6, 7, 8, 9, 10, 11])
          ∗ atPos ER (rcvC c 1) 1 ∅ 0 ∗ atPos ER (rcvC c 4) 1 ∅ 0 ∗ at_ c (comS 1) fullShare (rcvV I c 1) ∗ at_ c (comS 4) fullShare (rcvV I c 4) -∗
          wpB c (K (ccwW (place c) 3#32) (oPair c 3 (I c).x (wqB (I c)) (I c).k (I c).v (woB (I c))) (oTop (oPair c 3 (I c).x (wqB (I c)) (I c).k (I c).v (woB (I c))))) Q))
   ⊢ wpB c (stretch4 c (place c) v5 v7 iota0 colLo colHi K) Q := by
  iintro ⟨#HR, #Hlev, Hw, Ha2, Hb2, HL2, HL5, HT2, HT5, HV1, HV4, HO, HK⟩
  unfold stretch4
  rw [k0_part40_eq_skeleton, k0_part41_eq_skeleton, k0_part42_eq_skeleton, k0_part43_eq_skeleton]
  unfold k0_part40_skel k0_part41_skel k0_part42_skel k0_part43_skel
  simp only [Prog.lift, Prog.bind_op, Prog.bind_ret, Prog.pure_eq_ret, Prog.bind_assoc]
  iapply (wp_rcv I κ c 1 [2, 5, 6, 7, 8, 9, 10, 11] (by decide) _ rfl) $$ [HV1 HO]
  · isplitr; · iexact HR
    isplitr; · iexact Hlev
    isplitl [HV1]; · iexact HV1
    iexact HO
  iintro ⟨HO, HE1, Hc1⟩
  iapply (wp_rcv I κ c 4 [2, 5, 6, 7, 8, 9, 10, 11] (by decide) _ rfl) $$ [HV4 HO]
  · isplitr; · iexact HR
    isplitr; · iexact Hlev
    isplitl [HV4]; · iexact HV4
    iexact HO
  iintro ⟨HO, HE4, Hc4⟩
  iapply (wp_load_acc c (cwF c 2) (k0_off3_eq c 2) _ fullShare (PT I c 2)) $$ Ha2
  iintro Ha2
  iapply (wp_load_com c 1 rfl _ fullShare (rcvV I c 1)) $$ Hc1
  iintro Hc1
  iapply (wp_load_acc c (cwF c 2) (k0_off3_eq c 2) _ fullShare (PT I c 2)) $$ Ha2
  iintro Ha2
  iapply (wp_store_acc c (cwF c 2) (k0_off3_eq c 2) _ (PT I c 2) (A I 2 c) _ (add_up (PT I c 2) (A I 1 (lf c)))) $$ Ha2
  iintro Ha2
  iapply (wp_load_acc c (ccwF c 2) (k0_off4_eq c 2) _ fullShare (PB I c 2)) $$ Hb2
  iintro Hb2
  iapply (wp_load_com c 4 rfl _ fullShare (rcvV I c 4)) $$ Hc4
  iintro Hc4
  iapply (wp_load_acc c (ccwF c 2) (k0_off4_eq c 2) _ fullShare (PB I c 2)) $$ Hb2
  iintro Hb2
  iapply (wp_store_acc c (ccwF c 2) (k0_off4_eq c 2) _ (PB I c 2) (B I 2 c) _ (add_up (PB I c 2) (B I 1 (rt c)))) $$ Hb2
  iintro Hb2
  iapply (wp_snd I κ c 2 [5, 6, 7, 8, 9, 10, 11] _ (Fin.ext (k0_dev7_eq c)) _ (slotOf_congr accM _ (k0_off5_eq c 2) _) _ rfl _ _ rfl rfl) $$ [Ha2 HL2 HT2 HO]
  · isplitr; · iexact HR
    isplitl [Ha2]; · iexact Ha2
    isplitl [HL2]; · iexact HL2
    isplitl [HT2]; · iexact HT2
    iexact HO
  iintro ⟨Hs2, HO⟩
  iapply (wp_snd I κ c 5 [6, 7, 8, 9, 10, 11] _ (Fin.ext (k0_dev8_eq c)) _ (slotOf_congr accM _ (k0_off6_eq c 2) _) _ rfl _ _ rfl rfl) $$ [Hb2 HL5 HT5 HO]
  · isplitr; · iexact HR
    isplitl [Hb2]; · iexact Hb2
    isplitl [HL5]; · iexact HL5
    isplitl [HT5]; · iexact HT5
    iexact HO
  iintro ⟨Hs5, HO⟩
  unfold workI work
  icases Hw with ⟨Hx, Hk, Hv, Hwq, Hwo, ⟨%fc, Hctx⟩, ⟨%fp, Hxp⟩⟩
  unfold wpB
  sl_exec
  iapply HK
  isplitl [Hx Hk Hv Hwq Hwo Hctx Hxp]
  · isplitl [Hx]; · iexact Hx
    isplitl [Hk]; · iexact Hk
    isplitl [Hv]; · iexact Hv
    isplitl [Hwq]; · iexact Hwq
    isplitl [Hwo]; · iexact Hwo
    isplitl [Hctx]; · iexists _; iexact Hctx
    iexists _; iexact Hxp
  isplitl [Hs2]; · iexact Hs2
  isplitl [Hs5]; · iexact Hs5
  isplitl [HO]; · iexact HO
  isplitl [HE1]; · iexact HE1
  isplitl [HE4]; · iexact HE4
  isplitl [Hc1]; · iexact Hc1
  iexact Hc4

end Cert.KernelIdealProof
-- ==== Proof.Out.lean ====
module

public import proofs.«01_k».proof.Proof.Run2
public import Idealize.ShloMosaic.Lib.WritesUnit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The result: eight chunks of 128 rows, stored one by one -/

/-- A row's place within its chunk. -/
def inChunk (y : S1024x1024.Idx) : S128x1024.Idx := Fin.cons ⟨(y 0).val % 128, Nat.mod_lt _ (by decide)⟩ (Fin.cons (y 1) finZeroElim)
/-- The chunk a row lies in. -/
def chunkOf (y : S1024x1024.Idx) : Fin 8 := ⟨(y 0).val / 128, by have : (y 0).val < 1024 := (y 0).isLt; omega⟩

/-- A chunk widened. -/
def wide (X : FVec F S128x1024 .bf16) : FVec F S128x1024 .f32 := extf .f32 X bitsLt_bf16_f32

variable (I : Dev nD → Blocks F) (κ : GSem nD τ sig → ℕ)

/-- Chunk `m` of the result: the total that ends its way round the ring, from the left for the upper four, from the right for the lower four. -/
def chunkV (m : Fin 8) : FVec F S128x1024 .f32 :=
  if m.val < 4 then wide (A I 3 ⟨(m.val + 3) % 4, Nat.mod_lt _ (by decide)⟩) else wide (B I 3 ⟨(m.val + 1) % 4, Nat.mod_lt _ (by decide)⟩)
/-- The result, the same on every device. -/
def outV : Vec F S1024x1024 .f32 := fun y => chunkV I (chunkOf y) (inChunk y)

/-- The upper chunk of round `j`, from the device that its total ends at. -/
theorem chunk_cw (c : Dev nD) (j : Fin 4) (e : Dev nD) (h : e.val = ((c.val + 4 - j.val) % 4 + 3) % 4) :
    wide (A I 3 e) = chunkV I (cwF c j) := by
  unfold chunkV
  rw [if_pos (show (cwF c j).val < 4 from Nat.mod_lt _ (by decide))]
  exact congrArg (fun e => wide (A I 3 e)) (Fin.ext h)
/-- The lower chunk of round `j`, from the device that its total ends at. -/
theorem chunk_ccw (c : Dev nD) (j : Fin 4) (e : Dev nD) (h : e.val = ((c.val + j.val) % 4 + 4 + 1) % 4) :
    wide (B I 3 e) = chunkV I (ccwF c j) := by
  unfold chunkV
  rw [if_neg (show ¬ (ccwF c j).val < 4 from fun h => by unfold ccwF at h; dsimp only at h; omega)]
  exact congrArg (fun e => wide (B I 3 e)) (Fin.ext h)

/-- The result's buffer with the chunks of `S` stored. -/
def outAt (c : Dev nD) (S : Finset (Fin 8)) : sProp 𝕄 :=
  iprop(∃ f, (oM.view.loc (c : Thread nD τ) ↦[oM.view.set]{fullShare} f) ∗ ⌜∀ y : S1024x1024.Idx, chunkOf y ∈ S → oM.view.read (Elt F) f y = outV I y⌝)

/-- Before the first store nothing is known of the result. -/
theorem outAt_empty (c : Dev nD) : any_ (F := F) c oM ⊢ outAt I c ∅ := by
  unfold outAt
  iintro ⟨%f, H⟩
  iexists f
  isplitl [H]; · iexact H
  ipureintro
  exact fun y hy => absurd hy (Finset.notMem_empty _)

/-- After the stores of all chunks the result is complete. -/
theorem outAt_univ (c : Dev nD) (S : Finset (Fin 8)) (hS : S = Finset.univ) : outAt I c S ⊢ at_ c oM fullShare (outV I) := by
  subst hS
  unfold outAt
  iintro ⟨%f, H, %h⟩
  iapply (pointsTo_rep_of_read (c : Thread nD τ) oM f fullShare (outV I) (funext fun y => h y (Finset.mem_univ _))) $$ H

/-- A load of the result's buffer whose value is not used. -/
theorem wp_load_out {α : Type} {Q : α → sProp 𝕄} (c : Dev nD) (S : Finset (Fin 8)) (r : Rect S1024x1024)
    {hl : oM.view.LoadsAt r.toLoadRect} {k : (r.shape.Idx → Elt F .f32) → Prog (TpuEff nD τ sig (Elt F) Λ₀ .tc) α} :
    outAt I c S ⊢ iprop((∀ v, outAt I c S -∗ wpB c (k v) Q) -∗ wpB c (.op (.load oM r.toLoadRect hl) k) Q) := by
  unfold outAt
  iintro ⟨%f, H, %h⟩ Hk
  iapply (wp_load_rect (defs := defs₀ (F := F)) Variants.none (c : Thread nD τ) none Set.univ (Name := ℕ) (U := UU) (Lvl := ℕ) (Ix := Unit) (Γ := []) (m := oM) (r := r) (hl := hl)
    (S := oM.view.set) (q := fullShare) (f := f) (Q := Q) (k := k) (View.set_slice_subset _ _)) $$ H
  iintro H
  iapply Hk
  iexists f
  isplitl [H]; · iexact H
  ipureintro; exact h

/-- Storing chunk `m`. -/
theorem wp_store_out {α : Type} {Q : α → sProp 𝕄} (c : Dev nD) (S : Finset (Fin 8)) (m : Fin 8) {off : Fin 2 → ℕ} (hoff : off = ![128 * m.val, 0])
    (inb : ∀ a, off a + S128x1024.size a ≤ S1024x1024.size a) (w : FVec F S128x1024 .f32) (hw : w = chunkV I m)
    {hx : (oM.access (Rect.unit (s := S1024x1024) off S128x1024.size inb)).Stores Finset.univ}
    {hm : (Finset.univ : Finset (Rect.unit (s := S1024x1024) off S128x1024.size inb).shape.Idx) = Finset.univ ∨ ∀ a, (Rect.unit (s := S1024x1024) off S128x1024.size inb).stride a = 1}
    {k : PUnit → Prog (TpuEff nD τ sig (Elt F) Λ₀ .tc) α} :
    outAt I c S ⊢ iprop((outAt I c (insert m S) -∗ wpB c (k ⟨⟩) Q) -∗ wpB c (.op (.store oM (Rect.unit (s := S1024x1024) off S128x1024.size inb) w Finset.univ hx hm) k) Q) := by
  subst hw
  unfold outAt
  iintro ⟨%f, H, %h⟩ Hk
  iapply (wp_store_writes₀ (defs := defs₀ (F := F)) Variants.none (c : Thread nD τ) none Set.univ (Name := ℕ) (U := UU) (Lvl := ℕ) (Ix := Unit) (m := oM)
    (r := Rect.unit (s := S1024x1024) off S128x1024.size inb) (w := chunkV I m) (hx := hx) (hm := hm) (Q := Q) (k := k) (S := oM.view.set) (f := f) (View.set_slice_subset _ _)) $$ H
  iintro H
  iapply Hk
  iexists _
  isplitl [H]; · iexact H
  ipureintro
  intro y hy
  by_cases hc : chunkOf y = m
  · subst hc
    refine (View.read_writes_cons_rows_of_mem (Val := Elt F) oM.view f inb _ [] y (inChunk y) hoff ?_ rfl).trans rfl
    show (y 0).val = 128 * ((y 0).val / 128) + (y 0).val % 128
    omega
  · have hm' : (y 0).val / 128 ≠ m.val := fun e => hc (Fin.ext e)
    refine (View.read_writes_cons_rows_of_not_mem (Val := Elt F) (W := 128) oM.view f inb _ [] y hoff rfl ?_).trans ?_
    · omega
    · exact h y ((Finset.mem_insert.mp hy).resolve_left hc)

/-! ## Where each total is stored -/

/-- Where the rows of the lower chunk of round `j` begin. -/
theorem off2_ccw (c : Dev nD) (j : Fin 4) : k0_off2 c (BitVec.ofNat 32 j.val) = ![128 * (ccwF c j).val, 0] := by
  rw [k0_off2_eq]; unfold ccwF; dsimp only; rw [Nat.mul_add]
/-- Where the rows of the upper chunk of round 0 begin. -/
theorem off7_cw : ∀ c : Dev nD, k0_off7 c = ![128 * (cwF c 0).val, 0] := by decide +kernel
/-- Where the rows of the lower chunk of round 0 begin. -/
theorem off8_ccw : ∀ c : Dev nD, k0_off8 c = ![128 * (ccwF c 0).val, 0] := by decide +kernel
/-- Where the rows of the upper chunk of round 2 begin. -/
theorem off9_cw : ∀ c : Dev nD, k0_off9 c = ![128 * (cwF c 2).val, 0] := by decide +kernel
/-- The upper chunk that the device itself finishes is right. -/
theorem end_cw3 (c : Dev nD) : wide (A I 3 c) = chunkV I (cwF c 3) := chunk_cw I c 3 c (by revert c; decide)
/-- The upper chunk that the left neighbour finishes is right. -/
theorem end_cw0 (c : Dev nD) : wide (A I 3 (lf c)) = chunkV I (cwF c 0) := chunk_cw I c 0 _ (by revert c; decide)
/-- The upper chunk that the right neighbour finishes is right. -/
theorem end_cw2 (c : Dev nD) : wide (A I 3 (rt c)) = chunkV I (cwF c 2) := chunk_cw I c 2 _ (by revert c; decide)
/-- The upper chunk that the opposite device finishes is right. -/
theorem end_cw1 (c : Dev nD) : wide (A I 3 (lf (lf c))) = chunkV I (cwF c 1) := chunk_cw I c 1 _ (by revert c; decide)
/-- The lower chunk that the device itself finishes is right. -/
theorem end_ccw3 (c : Dev nD) : wide (B I 3 c) = chunkV I (ccwF c 3) := chunk_ccw I c 3 c (by revert c; decide)
/-- The lower chunk that the right neighbour finishes is right. -/
theorem end_ccw0 (c : Dev nD) : wide (B I 3 (rt c)) = chunkV I (ccwF c 0) := chunk_ccw I c 0 _ (by revert c; decide)
/-- The lower chunk that the left neighbour finishes is right. -/
theorem end_ccw2 (c : Dev nD) : wide (B I 3 (lf c)) = chunkV I (ccwF c 2) := chunk_ccw I c 2 _ (by revert c; decide)
/-- The lower chunk that the opposite device finishes is right. -/
theorem end_ccw1 (c : Dev nD) : wide (B I 3 (rt (rt c))) = chunkV I (ccwF c 1) := chunk_ccw I c 1 _ (by revert c; decide)
/-- The eight stores reach all eight chunks. -/
theorem all_chunks : ∀ c : Dev nD, (insert (ccwF c 1) (insert (cwF c 1) (insert (ccwF c 2) (insert (cwF c 2) (insert (ccwF c 0) (insert (cwF c 0)
    (insert (ccwF c 3) (insert (cwF c 3) ∅))))))) : Finset (Fin 8)) = Finset.univ := by decide

/-! ## Shares of a plane -/

/-- A share of a chunk splits into halves. -/
theorem at_split (c : Dev nD) (m : Memref sig .tc .vmem S128x1024 .bf16) (q : PosShare TreeShare) (X : Vec F S128x1024 .bf16) :
    at_ c m q X ⊢ iprop(at_ c m q.left X ∗ at_ c m q.right X) := (pointsTo_share (PosShare.mem_left_op_right q)).1
/-- Two halves of a share of a chunk join again. -/
theorem at_join (c : Dev nD) (m : Memref sig .tc .vmem S128x1024 .bf16) (q : PosShare TreeShare) (X : Vec F S128x1024 .bf16) :
    iprop(at_ c m q.left X ∗ at_ c m q.right X) ⊢ at_ c m q X := (pointsTo_share (PosShare.mem_left_op_right q)).2

end Cert.KernelIdealProof
-- ==== Proof.Run5.lean ====
module

public import proofs.«01_k».proof.Proof.Out
public import proofs.«01_k».proof.Proof.Run3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The body's fifty-third to sixtieth part: the last hop, the totals passed on, and the result's chunks stored. -/
def stretch5 (d0 : Dev nD) (v2 v5 v7 v1598 : BitVec 32) (v2031 : FVec F S256x1024 .f32) (v2033 : FVec F S128x1024 .bf16)
   (K : Prog (TpuEff nD τ sig (Elt F) Λ₀ .tc) PUnit) : Prog (TpuEff nD τ sig (Elt F) Λ₀ .tc) PUnit := do
  let ⟨v2062, v2064⟩ : Σ' (v2062 : BitVec 32), BitVec 32 ← k0_part53 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7 v1598 v2031 v2033
  let ⟨v2088, v2091⟩ : Σ' (v2088 : BitVec 32), BitVec 32 ← k0_part54 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v7 v2062 v2064
  k0_part55 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v5 v7
  k0_part56 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v5 v7 v2088 v2091
  let ⟨v2184, v2185⟩ : Σ' (v2184 : FVec F S128x1024 .f32), BitVec 32 ← k0_part57 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7
  let v2212 : BitVec 32 ← k0_part58 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7 v2184 v2185
  k0_part59 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2 v5 v7 v2212
  k0_part60 (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _) d0 v2
  K

variable (I : Dev nD → Blocks F) (κ : GSem nD τ sig → ℕ)

set_option maxRecDepth 65536 in
set_option maxHeartbeats 0 in
/-- The last hop, the totals handed on around the ring, and every chunk of the result stored. -/
theorem run5 (c : Dev nD) (v5 v7 v1598 : BitVec 32) (K : Prog (TpuEff nD τ sig (Elt F) Λ₀ .tc) PUnit) (Q : PUnit → sProp 𝕄) :
   iprop(recs I κ ∗ levAts L lv ∗ any_ (F := F) c (accS (cwF c 3)) ∗ any_ (F := F) c (accS (ccwF c 3)) ∗ any_ (F := F) c oM ∗ landing (F := F) (tg 6 c) 6 ∗ landing (F := F) (tg 7 c) 7 ∗ landing (F := F) (tg 8 c) 8 ∗ landing (F := F) (tg 9 c) 9 ∗ landing (F := F) (tg 10 c) 10 ∗ landing (F := F) (tg 11 c) 11 ∗ sTok c 6 ∗ sTok c 7 ∗ sTok c 8 ∗ sTok c 9 ∗ sTok c 10 ∗ sTok c 11 ∗ rTok c 2 ∗ rTok c 5 ∗ rTok c 6 ∗ rTok c 7 ∗ rTok c 8 ∗ rTok c 9 ∗ rTok c 10 ∗ rTok c 11 ∗ dTok c 0 ∗ owes_ c (owe c [6, 7, 8, 9, 10, 11])
      ∗ (at_ c oM fullShare (outV I) ∗ owes_ c (owe c []) ∗ cred (tallyAt (sndC c 6) () N) ∗ cred (tallyAt (sndC c 7) () N) ∗ cred (tallyAt (sndC c 8) () N) ∗ cred (tallyAt (sndC c 9) () N) ∗ cred (tallyAt (sndC c 10) () N) ∗ cred (tallyAt (sndC c 11) () N) ∗ atPos ER (rcvC c 2) 1 ∅ 0 ∗ atPos ER (rcvC c 5) 1 ∅ 0 ∗ atPos ER (rcvC c 6) 1 ∅ 0 ∗ atPos ER (rcvC c 7) 1 ∅ 0 ∗ atPos ER (rcvC c 8) 1 ∅ 0 ∗ atPos ER (rcvC c 9) 1 ∅ 0 ∗ atPos ER (rcvC c 10) 1 ∅ 0 ∗ atPos ER (rcvC c 11) 1 ∅ 0 ∗ atPos ER (sndC c 0) 1 ∅ 0 ∗ at_ c (srcM c 0) (srcQ 0) (srcV I c 0) ∗ at_ c (accS (cwF c 3)) fullShare.right.right (A I 3 c) ∗ at_ c (accS (ccwF c 3)) fullShare.right.right (B I 3 c) ∗ at_ c (comS 2) fullShare (rcvV I c 2) ∗ at_ c (comS 5) fullShare (rcvV I c 5) ∗ at_ c (comS 6) fullShare.right (rcvV I c 6) ∗ at_ c (comS 7) fullShare (rcvV I c 7) ∗ at_ c (comS 8) fullShare (rcvV I c 8) ∗ at_ c (comS 9) fullShare.right (rcvV I c 9) ∗ at_ c (comS 10) fullShare (rcvV I c 10) ∗ at_ c (comS 11) fullShare (rcvV I c 11) -∗
          wpB c K Q))
   ⊢ wpB c (stretch5 c (place c) v5 v7 v1598 (oPair c 3 (I c).x (wqB (I c)) (I c).k (I c).v (woB (I c))) (oTop (oPair c 3 (I c).x (wqB (I c)) (I c).k (I c).v (woB (I c)))) K) Q := by
  iintro ⟨#HR, #Hlev, Ha3, Hb3, Ho, HL6, HL7, HL8, HL9, HL10, HL11, HT6, HT7, HT8, HT9, HT10, HT11, HV2, HV5, HV6, HV7, HV8, HV9, HV10, HV11, HD0, HO, HK⟩
  ihave Ha3 := (any_at c _) $$ Ha3
  icases Ha3 with ⟨%Xa, Ha3⟩
  ihave Hb3 := (any_at c _) $$ Hb3
  icases Hb3 with ⟨%Xb, Hb3⟩
  ihave Ho := (outAt_empty I c) $$ Ho
  unfold stretch5
  rw [k0_part53_eq_skeleton, k0_part54_eq_skeleton, k0_part55_eq_skeleton, k0_part56_eq_skeleton, k0_part57_eq_skeleton, k0_part58_eq_skeleton, k0_part59_eq_skeleton, k0_part60_eq_skeleton]
  unfold k0_part53_skel k0_part54_skel k0_part55_skel k0_part56_skel k0_part57_skel k0_part58_skel k0_part59_skel k0_part60_skel
  simp only [Prog.lift, Prog.bind_op, Prog.bind_ret, Prog.pure_eq_ret, Prog.bind_assoc]
  iapply (wp_load_acc c (cwF c 3) (k0_off3_eq c 3) _ fullShare Xa) $$ Ha3
  iintro Ha3
  iapply (wp_store_acc c (cwF c 3) (k0_off3_eq c 3) _ Xa (PT I c 3) _ rfl) $$ Ha3
  iintro Ha3
  iapply (wp_load_acc c (ccwF c 3) (k0_off4_eq c 3) _ fullShare Xb) $$ Hb3
  iintro Hb3
  iapply (wp_store_acc c (ccwF c 3) (k0_off4_eq c 3) _ Xb (PB I c 3) _ rfl) $$ Hb3
  iintro Hb3
  iapply (wp_rcv I κ c 2 [6, 7, 8, 9, 10, 11] (by decide) _ rfl) $$ [HV2 HO]
  · isplitr; · iexact HR
    isplitr; · iexact Hlev
    isplitl [HV2]; · iexact HV2
    iexact HO
  iintro ⟨HO, HE2, Hc2⟩
  iapply (wp_rcv I κ c 5 [6, 7, 8, 9, 10, 11] (by decide) _ rfl) $$ [HV5 HO]
  · isplitr; · iexact HR
    isplitr; · iexact Hlev
    isplitl [HV5]; · iexact HV5
    iexact HO
  iintro ⟨HO, HE5, Hc5⟩
  iapply (wp_load_acc c (cwF c 3) (k0_off3_eq c 3) _ fullShare (PT I c 3)) $$ Ha3
  iintro Ha3
  iapply (wp_load_com c 2 rfl _ fullShare (rcvV I c 2)) $$ Hc2
  iintro Hc2
  iapply (wp_load_acc c (cwF c 3) (k0_off3_eq c 3) _ fullShare (PT I c 3)) $$ Ha3
  iintro Ha3
  iapply (wp_store_acc c (cwF c 3) (k0_off3_eq c 3) _ (PT I c 3) (A I 3 c) _ (add_up (PT I c 3) (A I 2 (lf c)))) $$ Ha3
  iintro Ha3
  iapply (wp_load_acc c (ccwF c 3) (k0_off4_eq c 3) _ fullShare (PB I c 3)) $$ Hb3
  iintro Hb3
  iapply (wp_load_com c 5 rfl _ fullShare (rcvV I c 5)) $$ Hc5
  iintro Hc5
  iapply (wp_load_acc c (ccwF c 3) (k0_off4_eq c 3) _ fullShare (PB I c 3)) $$ Hb3
  iintro Hb3
  iapply (wp_store_acc c (ccwF c 3) (k0_off4_eq c 3) _ (PB I c 3) (B I 3 c) _ (add_up (PB I c 3) (B I 2 (rt c)))) $$ Hb3
  iintro Hb3
  ihave Ha3 := (at_split c (accS (cwF c 3)) fullShare (A I 3 c)) $$ Ha3
  icases Ha3 with ⟨Ha3l, Ha3r⟩
  ihave Ha3r := (at_split c (accS (cwF c 3)) fullShare.right (A I 3 c)) $$ Ha3r
  icases Ha3r with ⟨Ha3m, Ha3r⟩
  ihave Hb3 := (at_split c (accS (ccwF c 3)) fullShare (B I 3 c)) $$ Hb3
  icases Hb3 with ⟨Hb3l, Hb3r⟩
  ihave Hb3r := (at_split c (accS (ccwF c 3)) fullShare.right (B I 3 c)) $$ Hb3r
  icases Hb3r with ⟨Hb3m, Hb3r⟩
  iapply (wp_snd I κ c 6 [7, 8, 9, 10, 11] _ (Fin.ext (k0_dev9_eq c)) _ (slotOf_congr accM _ (k0_off5_eq c 3) _) _ rfl _ _ rfl rfl) $$ [Ha3l HL6 HT6 HO]
  · isplitr; · iexact HR
    isplitl [Ha3l]; · iexact Ha3l
    isplitl [HL6]; · iexact HL6
    isplitl [HT6]; · iexact HT6
    iexact HO
  iintro ⟨Hs6, HO⟩
  iapply (wp_snd I κ c 7 [8, 9, 10, 11] _ (Fin.ext (k0_dev10_eq c)) _ (slotOf_congr accM _ (k0_off5_eq c 3) _) _ rfl _ _ rfl rfl) $$ [Ha3m HL7 HT7 HO]
  · isplitr; · iexact HR
    isplitl [Ha3m]; · iexact Ha3m
    isplitl [HL7]; · iexact HL7
    isplitl [HT7]; · iexact HT7
    iexact HO
  iintro ⟨Hs7, HO⟩
  iapply (wp_snd I κ c 8 [9, 10, 11] _ (Fin.ext (k0_dev11_eq c)) _ (slotOf_congr accM _ (k0_off6_eq c 3) _) _ rfl _ _ rfl rfl) $$ [Hb3l HL8 HT8 HO]
  · isplitr; · iexact HR
    isplitl [Hb3l]; · iexact Hb3l
    isplitl [HL8]; · iexact HL8
    isplitl [HT8]; · iexact HT8
    iexact HO
  iintro ⟨Hs8, HO⟩
  iapply (wp_snd I κ c 9 [10, 11] _ (Fin.ext (k0_dev12_eq c)) _ (slotOf_congr accM _ (k0_off6_eq c 3) _) _ rfl _ _ rfl rfl) $$ [Hb3m HL9 HT9 HO]
  · isplitr; · iexact HR
    isplitl [Hb3m]; · iexact Hb3m
    isplitl [HL9]; · iexact HL9
    isplitl [HT9]; · iexact HT9
    iexact HO
  iintro ⟨Hs9, HO⟩
  iapply (wp_load_acc c (cwF c 3) (k0_off3_eq c 3) _ fullShare.right.right (A I 3 c)) $$ Ha3r
  iintro Ha3r
  iapply (wp_load_out I c ∅ _) $$ Ho
  iintro %u2 Ho
  iapply (wp_store_out I c ∅ (cwF c 3) (k0_off1_eq c 3) _ _ ((congrArg wide (down_up (A I 3 c))).trans (end_cw3 I c))) $$ Ho
  iintro Ho
  iapply (wp_load_acc c (ccwF c 3) (k0_off4_eq c 3) _ fullShare.right.right (B I 3 c)) $$ Hb3r
  iintro Hb3r
  iapply (wp_load_out I c (insert (cwF c 3) ∅) _) $$ Ho
  iintro %u3 Ho
  iapply (wp_store_out I c (insert (cwF c 3) ∅) (ccwF c 3) (off2_ccw c 3) _ _ ((congrArg wide (down_up (B I 3 c))).trans (end_ccw3 I c))) $$ Ho
  iintro Ho
  iapply (wp_rcv I κ c 6 [10, 11] (by decide) _ rfl) $$ [HV6 HO]
  · isplitr; · iexact HR
    isplitr; · iexact Hlev
    isplitl [HV6]; · iexact HV6
    iexact HO
  iintro ⟨HO, HE6, Hc6⟩
  iapply (wp_rcv I κ c 9 [10, 11] (by decide) _ rfl) $$ [HV9 HO]
  · isplitr; · iexact HR
    isplitr; · iexact Hlev
    isplitl [HV9]; · iexact HV9
    iexact HO
  iintro ⟨HO, HE9, Hc9⟩
  ihave Hc6 := (at_split c (comS 6) fullShare (rcvV I c 6)) $$ Hc6
  icases Hc6 with ⟨Hc6l, Hc6⟩
  ihave Hc9 := (at_split c (comS 9) fullShare (rcvV I c 9)) $$ Hc9
  icases Hc9 with ⟨Hc9l, Hc9⟩
  iapply (wp_snd I κ c 10 [11] _ (Fin.ext (k0_dev13_eq c)) _ rfl _ rfl _ _ rfl rfl) $$ [Hc6l HL10 HT10 HO]
  · isplitr; · iexact HR
    isplitl [Hc6l]; · iexact Hc6l
    isplitl [HL10]; · iexact HL10
    isplitl [HT10]; · iexact HT10
    iexact HO
  iintro ⟨Hs10, HO⟩
  iapply (wp_snd I κ c 11 [] _ (Fin.ext (k0_dev14_eq c)) _ rfl _ rfl _ _ rfl rfl) $$ [Hc9l HL11 HT11 HO]
  · isplitr; · iexact HR
    isplitl [Hc9l]; · iexact Hc9l
    isplitl [HL11]; · iexact HL11
    isplitl [HT11]; · iexact HT11
    iexact HO
  iintro ⟨Hs11, HO⟩
  iapply (wp_load_com c 6 rfl _ fullShare.right (rcvV I c 6)) $$ Hc6
  iintro Hc6
  iapply (wp_load_out I c (insert (ccwF c 3) (insert (cwF c 3) ∅)) _) $$ Ho
  iintro %u4 Ho
  iapply (wp_store_out I c (insert (ccwF c 3) (insert (cwF c 3) ∅)) (cwF c 0) (off7_cw c) _ _ ((congrArg wide (down_up (A I 3 (lf c)))).trans (end_cw0 I c))) $$ Ho
  iintro Ho
  iapply (wp_load_com c 9 rfl _ fullShare.right (rcvV I c 9)) $$ Hc9
  iintro Hc9
  iapply (wp_load_out I c (insert (cwF c 0) (insert (ccwF c 3) (insert (cwF c 3) ∅))) _) $$ Ho
  iintro %u5 Ho
  iapply (wp_store_out I c (insert (cwF c 0) (insert (ccwF c 3) (insert (cwF c 3) ∅))) (ccwF c 0) (off8_ccw c) _ _ ((congrArg wide (down_up (B I 3 (rt c)))).trans (end_ccw0 I c))) $$ Ho
  iintro Ho
  iapply (wp_rcv I κ c 7 [] (by decide) _ rfl) $$ [HV7 HO]
  · isplitr; · iexact HR
    isplitr; · iexact Hlev
    isplitl [HV7]; · iexact HV7
    iexact HO
  iintro ⟨HO, HE7, Hc7⟩
  iapply (wp_rcv I κ c 8 [] (by decide) _ rfl) $$ [HV8 HO]
  · isplitr; · iexact HR
    isplitr; · iexact Hlev
    isplitl [HV8]; · iexact HV8
    iexact HO
  iintro ⟨HO, HE8, Hc8⟩
  iapply (wp_load_com c 7 rfl _ fullShare (rcvV I c 7)) $$ Hc7
  iintro Hc7
  iapply (wp_load_out I c (insert (ccwF c 0) (insert (cwF c 0) (insert (ccwF c 3) (insert (cwF c 3) ∅)))) _) $$ Ho
  iintro %u6 Ho
  iapply (wp_store_out I c (insert (ccwF c 0) (insert (cwF c 0) (insert (ccwF c 3) (insert (cwF c 3) ∅)))) (cwF c 2) (off9_cw c) _ _ ((congrArg wide (down_up (A I 3 (rt c)))).trans (end_cw2 I c))) $$ Ho
  iintro Ho
  iapply (wp_load_com c 8 rfl _ fullShare (rcvV I c 8)) $$ Hc8
  iintro Hc8
  iapply (wp_load_out I c (insert (cwF c 2) (insert (ccwF c 0) (insert (cwF c 0) (insert (ccwF c 3) (insert (cwF c 3) ∅))))) _) $$ Ho
  iintro %u7 Ho
  iapply (wp_store_out I c (insert (cwF c 2) (insert (ccwF c 0) (insert (cwF c 0) (insert (ccwF c 3) (insert (cwF c 3) ∅))))) (ccwF c 2) (off2_ccw c 2) _ _ ((congrArg wide (down_up (B I 3 (lf c)))).trans (end_ccw2 I c))) $$ Ho
  iintro Ho
  iapply (wp_rcv I κ c 10 [] (by decide) _ rfl) $$ [HV10 HO]
  · isplitr; · iexact HR
    isplitr; · iexact Hlev
    isplitl [HV10]; · iexact HV10
    iexact HO
  iintro ⟨HO, HE10, Hc10⟩
  iapply (wp_rcv I κ c 11 [] (by decide) _ rfl) $$ [HV11 HO]
  · isplitr; · iexact HR
    isplitr; · iexact Hlev
    isplitl [HV11]; · iexact HV11
    iexact HO
  iintro ⟨HO, HE11, Hc11⟩
  iapply (wp_load_com c 10 rfl _ fullShare (rcvV I c 10)) $$ Hc10
  iintro Hc10
  iapply (wp_load_out I c (insert (ccwF c 2) (insert (cwF c 2) (insert (ccwF c 0) (insert (cwF c 0) (insert (ccwF c 3) (insert (cwF c 3) ∅)))))) _) $$ Ho
  iintro %u8 Ho
  iapply (wp_store_out I c (insert (ccwF c 2) (insert (cwF c 2) (insert (ccwF c 0) (insert (cwF c 0) (insert (ccwF c 3) (insert (cwF c 3) ∅)))))) (cwF c 1) (k0_off1_eq c 1) _ _ ((congrArg wide (down_up (A I 3 (lf (lf c))))).trans (end_cw1 I c))) $$ Ho
  iintro Ho
  iapply (wp_load_com c 11 rfl _ fullShare (rcvV I c 11)) $$ Hc11
  iintro Hc11
  iapply (wp_load_out I c (insert (cwF c 1) (insert (ccwF c 2) (insert (cwF c 2) (insert (ccwF c 0) (insert (cwF c 0) (insert (ccwF c 3) (insert (cwF c 3) ∅))))))) _) $$ Ho
  iintro %u9 Ho
  iapply (wp_store_out I c (insert (cwF c 1) (insert (ccwF c 2) (insert (cwF c 2) (insert (ccwF c 0) (insert (cwF c 0) (insert (ccwF c 3) (insert (cwF c 3) ∅))))))) (ccwF c 1) (off2_ccw c 1) _ _ ((congrArg wide (down_up (B I 3 (rt (rt c))))).trans (end_ccw1 I c))) $$ Ho
  iintro Ho
  iapply (wp_drn I κ c 0 _ rfl) $$ [HD0 HO]
  · isplitr; · iexact HR
    isplitl [HD0]; · iexact HD0
    iexact HO
  iintro ⟨HO, HF0, Hd0⟩
  ihave Ho := (outAt_univ I c _ (all_chunks c)) $$ Ho
  iapply HK
  isplitl [Ho]; · iexact Ho
  isplitl [HO]; · iexact HO
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [HE2]; · iexact HE2
  isplitl [HE5]; · iexact HE5
  isplitl [HE6]; · iexact HE6
  isplitl [HE7]; · iexact HE7
  isplitl [HE8]; · iexact HE8
  isplitl [HE9]; · iexact HE9
  isplitl [HE10]; · iexact HE10
  isplitl [HE11]; · iexact HE11
  isplitl [HF0]; · iexact HF0
  isplitl [Hd0]; · iexact Hd0
  isplitl [Ha3r]; · iexact Ha3r
  isplitl [Hb3r]; · iexact Hb3r
  isplitl [Hc2]; · iexact Hc2
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  iexact Hc11

end Cert.KernelIdealProof
-- ==== Proof.Body.lean ====
module

public import proofs.«01_k».proof.Proof.Run0
public import proofs.«01_k».proof.Proof.Run1
public import proofs.«01_k».proof.Proof.Run4
public import proofs.«01_k».proof.Proof.Run5

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The whole body -/

set_option maxRecDepth 65536 in
set_option maxHeartbeats 0 in
/-- The body's first sixty parts are the six stretches one after the other. -/
theorem part63_eq : k0_part63_skel (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _)
    = (stretch0 fun d0 v2 v5 v7 v25 v50 v75 c8 => stretch1 d0 v2 v25 v50 v75 c8 fun v77 v83 v516 v518 =>
      stretch2 d0 v2 v5 v7 v25 v50 v77 v83 v516 v518 fun v557 v560 v993 => stretch3 d0 v2 v5 v7 v25 v50 v77 v557 v560 v993
        (stretch4 d0 v2 v5 v7 v25 v50 v77 fun v1598 v2031 v2033 => stretch5 d0 v2 v5 v7 v1598 v2031 v2033 (pure ⟨⟩))) := rfl

/-- The ghost state of copy `h` a device starts with. -/
def sems0 (c : Dev nD) (h : Fin 12) : sProp 𝕄 := iprop(reached ER (rcvC c h) 0 ∗ sTok c h ∗ rTok c h ∗ atPos ER (sndC c h) 0 ∅ 0)
/-- The ghost state of the barrier a device starts with. -/
def bars0 (c : Dev nD) : sProp 𝕄 :=
  iprop(dutyTok ER (barC (nb c false)) 0 (!false) ∗ dutyTok ER (barC (nb c true)) 0 (!true) ∗ atPos ER (barC c) 0 ∅ 0 ∗ cred (tallyAt (barC c) () 2))

/-- The eight chunks in the order the rounds take them: the upper ones to the left, then the lower ones to the right. -/
def turn (c : Dev nD) (k : Fin 8) : Fin 8 := if k.val < 4 then cwF c ⟨k.val % 4, Nat.mod_lt _ (by decide)⟩ else ccwF c ⟨k.val % 4, Nat.mod_lt _ (by decide)⟩
/-- The rounds take every chunk once. -/
theorem turn_bijective : ∀ c : Dev nD, Function.Bijective (turn c) := by
  intro c
  refine Finite.injective_iff_bijective.mp ?_
  revert c; decide
/-- The eight chunks, listed one after the other. -/
theorem acc_list (c : Dev nD) : (bigSep Finset.univ fun i => any_ (F := F) c (accS i))
    = iprop(any_ (F := F) c (accS (cwF c 0)) ∗ any_ (F := F) c (accS (cwF c 1)) ∗ any_ (F := F) c (accS (cwF c 2)) ∗ any_ (F := F) c (accS (cwF c 3)) ∗ any_ (F := F) c (accS (ccwF c 0)) ∗ any_ (F := F) c (accS (ccwF c 1)) ∗ any_ (F := F) c (accS (ccwF c 2)) ∗ any_ (F := F) c (accS (ccwF c 3))) := by
  rw [bigSep_univ_equiv (Equiv.ofBijective (turn c) (turn_bijective c)), bigSep_univ_eq_bigSepL [0, 1, 2, 3, 4, 5, 6, 7] (by decide) (by decide)]
  rfl
/-- A conjunction over the twelve slots, listed one after the other. -/
theorem com_list (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A proposition entails itself. -/
theorem same (P : sProp 𝕄) : P ⊢ P := BI.Entails.refl P
/-- What the barrier's signal to the left neighbour hands over: the device's slots that this neighbour copies into. -/
theorem pay_left (c : Dev nD) : barPay (F := F) (nb c false) (!false) = iprop(landing (F := F) c 0 ∗ landing (F := F) c 1 ∗ landing (F := F) c 2 ∗ landing (F := F) c 6 ∗ landing (F := F) c 8 ∗ landing (F := F) c 10) := by
  show iprop(landing (F := F) (rt (lf c)) 0 ∗ landing (F := F) (rt (lf c)) 1 ∗ landing (F := F) (rt (lf c)) 2 ∗ landing (F := F) (rt (lf c)) 6 ∗ landing (F := F) (rt (lf c)) 8 ∗ landing (F := F) (rt (lf c)) 10) = _
  rw [rt_lf]
/-- What the barrier's signal to the right neighbour hands over: the device's slots that this neighbour copies into. -/
theorem pay_right (c : Dev nD) : barPay (F := F) (nb c true) (!true) = iprop(landing (F := F) c 3 ∗ landing (F := F) c 4 ∗ landing (F := F) c 5 ∗ landing (F := F) c 7 ∗ landing (F := F) c 9 ∗ landing (F := F) c 11) := by
  show iprop(landing (F := F) (lf (rt c)) 3 ∗ landing (F := F) (lf (rt c)) 4 ∗ landing (F := F) (lf (rt c)) 5 ∗ landing (F := F) (lf (rt c)) 7 ∗ landing (F := F) (lf (rt c)) 9 ∗ landing (F := F) (lf (rt c)) 11) = _
  rw [lf_rt]

variable (I : Dev nD → Blocks F) (κ : GSem nD τ sig → ℕ)

set_option maxRecDepth 65536 in
set_option maxHeartbeats 0 in
/-- One device's body: from its blocks, its scratch buffers and its ghost state, to the result's buffer holding the result, everything else handed back. -/
theorem run_body (c : Dev nD) (Q : PUnit → sProp 𝕄) :
   iprop(recs I κ ∗ levAts L lv ∗ at_ c xM fullShare (I c).x ∗ at_ c wqM fullShare (I c).wq ∗ at_ c kM fullShare (I c).k ∗ at_ c vM fullShare (I c).v ∗ at_ c woM fullShare (I c).wo ∗ any_ (F := F) c oM ∗ any_ (F := F) c ctxM ∗ any_ (F := F) c xpM ∗ any_ (F := F) c wqbM ∗ any_ (F := F) c wobM ∗ (bigSep Finset.univ fun i => any_ (F := F) c (accS i)) ∗ (bigSep Finset.univ fun h => any_ (F := F) c (comS h))
      ∗ bars0 c ∗ (bigSep Finset.univ (sems0 c)) ∗ owes_ c (O₀ c)
      ∗ (at_ c xM fullShare (I c).x ∗ at_ c wqM fullShare (I c).wq ∗ at_ c kM fullShare (I c).k ∗ at_ c vM fullShare (I c).v ∗ at_ c woM fullShare (I c).wo ∗ at_ c oM fullShare (outV I) ∗ any_ (F := F) c ctxM ∗ any_ (F := F) c xpM ∗ any_ (F := F) c wqbM ∗ any_ (F := F) c wobM ∗ (bigSep Finset.univ fun i => any_ (F := F) c (accS i)) ∗ (bigSep Finset.univ fun h => any_ (F := F) c (comS h))
          ∗ atPos ER (barC c) 1 ∅ 0 ∗ (bigSep Finset.univ fun h => iprop(atPos ER (sndC c h) 1 ∅ 0 ∗ atPos ER (rcvC c h) 1 ∅ 0)) ∗ owes_ c 0 -∗ Q ⟨⟩))
   ⊢ wpB c (cc0_body (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _)) Q := by
  unfold bars0 sems0
  rw [acc_list, com_list (fun h => any_ (F := F) c (comS h)), com_list (fun h => iprop(reached ER (rcvC c h) 0 ∗ sTok c h ∗ rTok c h ∗ atPos ER (sndC c h) 0 ∅ 0))]
  iintro ⟨#HR, #Hlev, Hx, Hwq, Hk, Hv, Hwo, Ho, Hctx, Hxp, Hwqb, Hwob, ⟨Ha0, Ha1, Ha2, Ha3, Hb0, Hb1, Hb2, Hb3⟩, ⟨HC0, HC1, HC2, HC3, HC4, HC5, HC6, HC7, HC8, HC9, HC10, HC11⟩, ⟨HtL, HtR, HatB, HcB⟩, ⟨⟨#Hr0, HT0, HV0, HP0⟩, ⟨#Hr1, HT1, HV1, HP1⟩, ⟨#Hr2, HT2, HV2, HP2⟩, ⟨#Hr3, HT3, HV3, HP3⟩, ⟨#Hr4, HT4, HV4, HP4⟩, ⟨#Hr5, HT5, HV5, HP5⟩, ⟨#Hr6, HT6, HV6, HP6⟩, ⟨#Hr7, HT7, HV7, HP7⟩, ⟨#Hr8, HT8, HV8, HP8⟩, ⟨#Hr9, HT9, HV9, HP9⟩, ⟨#Hr10, HT10, HV10, HP10⟩, ⟨#Hr11, HT11, HV11, HP11⟩⟩, HO, HK⟩
  rw [cc0_body_eq_skeleton]
  unfold cc0_body_skel
  rw [k0_part63_eq_skeleton, part63_eq, wpB, wp_bind]
  ihave HpL := (same (iprop(landing (F := F) c 0 ∗ landing (F := F) c 1 ∗ landing (F := F) c 2 ∗ landing (F := F) c 6 ∗ landing (F := F) c 8 ∗ landing (F := F) c 10) : sProp 𝕄)) $$ [HC0 HC1 HC2 HC6 HC8 HC10]
  · isplitl [HC0]
    · unfold landing; isplitl [HC0]; · iexact HC0
      iexact Hr0
    isplitl [HC1]
    · unfold landing; isplitl [HC1]; · iexact HC1
      iexact Hr1
    isplitl [HC2]
    · unfold landing; isplitl [HC2]; · iexact HC2
      iexact Hr2
    isplitl [HC6]
    · unfold landing; isplitl [HC6]; · iexact HC6
      iexact Hr6
    isplitl [HC8]
    · unfold landing; isplitl [HC8]; · iexact HC8
      iexact Hr8
    unfold landing; isplitl [HC10]; · iexact HC10
    iexact Hr10
  ihave HpR := (same (iprop(landing (F := F) c 3 ∗ landing (F := F) c 4 ∗ landing (F := F) c 5 ∗ landing (F := F) c 7 ∗ landing (F := F) c 9 ∗ landing (F := F) c 11) : sProp 𝕄)) $$ [HC3 HC4 HC5 HC7 HC9 HC11]
  · isplitl [HC3]
    · unfold landing; isplitl [HC3]; · iexact HC3
      iexact Hr3
    isplitl [HC4]
    · unfold landing; isplitl [HC4]; · iexact HC4
      iexact Hr4
    isplitl [HC5]
    · unfold landing; isplitl [HC5]; · iexact HC5
      iexact Hr5
    isplitl [HC7]
    · unfold landing; isplitl [HC7]; · iexact HC7
      iexact Hr7
    isplitl [HC9]
    · unfold landing; isplitl [HC9]; · iexact HC9
      iexact Hr9
    unfold landing; isplitl [HC11]; · iexact HC11
    iexact Hr11
  iapply (run0 I κ c _ _)
  isplitr; · iexact HR
  isplitr; · iexact Hlev
  isplitl [Hwq]; · iexact Hwq
  isplitl [Hwo]; · iexact Hwo
  isplitl [Hwqb]; · iexact Hwqb
  isplitl [Hwob]; · iexact Hwob
  isplitl [HtL]; · iexact HtL
  isplitl [HpL]; · rw [pay_left]; iexact HpL
  isplitl [HtR]; · iexact HtR
  isplitl [HpR]; · rw [pay_right]; iexact HpR
  isplitl [HatB]; · iexact HatB
  isplitl [HcB]; · iexact HcB
  isplitl [HO]; · iexact HO
  iintro %v5 %v7 ⟨Hwq, Hwo, Hwqb, Hwob, HO, HatB, HB1, HB2⟩
  unfold barPay
  icases HB1 with ⟨HL0, HL1, HL2, HL6, HL8, HL10⟩
  icases HB2 with ⟨HL3, HL4, HL5, HL7, HL9, HL11⟩
  iapply (run1 c _ _ (I c).x (I c).k (I c).v (wqB (I c)) (woB (I c)))
  isplitl [Hx Hk Hv Hwqb Hwob Hctx Hxp]
  · unfold work
    isplitl [Hx]; · iexact Hx
    isplitl [Hk]; · iexact Hk
    isplitl [Hv]; · iexact Hv
    isplitl [Hwqb]; · iexact Hwqb
    isplitl [Hwob]; · iexact Hwob
    isplitl [Hctx]; · iexact Hctx
    iexact Hxp
  iintro Hw
  iapply (run2 I κ c v5 v7 _ _ _)
  isplitr; · iexact HR
  isplitl [Hw]; · iexact Hw
  isplitl [Ha0]; · iexact Ha0
  isplitl [Hb0]; · iexact Hb0
  isplitl [HL0]; · iexact HL0
  isplitl [HL3]; · iexact HL3
  isplitl [HT0]; · iexact HT0
  isplitl [HT3]; · iexact HT3
  isplitl [HO]; · iexact HO
  iintro ⟨Hw, Hs0, Hs3, HO⟩
  iapply (run3 I κ c v5 v7 _ _ _ _)
  isplitr; · iexact HR
  isplitr; · iexact Hlev
  isplitl [Hw]; · iexact Hw
  isplitl [Ha1]; · iexact Ha1
  isplitl [Hb1]; · iexact Hb1
  isplitl [Ha2]; · iexact Ha2
  isplitl [Hb2]; · iexact Hb2
  isplitl [HL1]; · iexact HL1
  isplitl [HL4]; · iexact HL4
  isplitl [HT1]; · iexact HT1
  isplitl [HT4]; · iexact HT4
  isplitl [HV0]; · iexact HV0
  isplitl [HV3]; · iexact HV3
  isplitl [HO]; · iexact HO
  iintro ⟨Hw, Hs1, Hs4, HO, HE0, HE3, Hc0, Hc3, Ha2, Hb2⟩
  iapply (run4 I κ c v5 v7 _ _)
  isplitr; · iexact HR
  isplitr; · iexact Hlev
  isplitl [Hw]; · iexact Hw
  isplitl [Ha2]; · iexact Ha2
  isplitl [Hb2]; · iexact Hb2
  isplitl [HL2]; · iexact HL2
  isplitl [HL5]; · iexact HL5
  isplitl [HT2]; · iexact HT2
  isplitl [HT5]; · iexact HT5
  isplitl [HV1]; · iexact HV1
  isplitl [HV4]; · iexact HV4
  isplitl [HO]; · iexact HO
  iintro ⟨Hw, Hs2, Hs5, HO, HE1, HE4, Hc1, Hc4⟩
  ihave HD0 := (same (dTok c 0 : sProp 𝕄)) $$ [HP0 Hs0]
  · unfold dTok; isplitl [HP0]; · iexact HP0
    iexact Hs0
  iapply (run5 I κ c v5 v7 _ _ _)
  isplitr; · iexact HR
  isplitr; · iexact Hlev
  isplitl [Ha3]; · iexact Ha3
  isplitl [Hb3]; · iexact Hb3
  isplitl [Ho]; · iexact Ho
  isplitl [HL6]; · iexact HL6
  isplitl [HL7]; · iexact HL7
  isplitl [HL8]; · iexact HL8
  isplitl [HL9]; · iexact HL9
  isplitl [HL10]; · iexact HL10
  isplitl [HL11]; · iexact HL11
  isplitl [HT6]; · iexact HT6
  isplitl [HT7]; · iexact HT7
  isplitl [HT8]; · iexact HT8
  isplitl [HT9]; · iexact HT9
  isplitl [HT10]; · iexact HT10
  isplitl [HT11]; · iexact HT11
  isplitl [HV2]; · iexact HV2
  isplitl [HV5]; · iexact HV5
  isplitl [HV6]; · iexact HV6
  isplitl [HV7]; · iexact HV7
  isplitl [HV8]; · iexact HV8
  isplitl [HV9]; · iexact HV9
  isplitl [HV10]; · iexact HV10
  isplitl [HV11]; · iexact HV11
  isplitl [HD0]; · iexact HD0
  isplitl [HO]; · iexact HO
  iintro ⟨Ho, HO, Hs6, Hs7, Hs8, Hs9, Hs10, Hs11, HE2, HE5, HE6, HE7, HE8, HE9, HE10, HE11, HF0, Hd0, Ha3r, Hb3r, Hc2, Hc5, Hc6, Hc7, Hc8, Hc9, Hc10, Hc11⟩
  rw [wpB, Prog.pure_eq_ret, Sem.wp_ret]
  imodintro
  rw [k0_part61_eq_skeleton, k0_part62_eq_skeleton]
  unfold k0_part61_skel k0_part62_skel
  simp only [Prog.lift, Prog.bind_op, Prog.bind_ret, Prog.pure_eq_ret, Prog.bind_assoc]
  ihave HD1 := (same (dTok c 1 : sProp 𝕄)) $$ [HP1 Hs1]
  · unfold dTok; isplitl [HP1]; · iexact HP1
    iexact Hs1
  iapply (wp_drn I κ c 1 _ rfl) $$ [HD1 HO]
  · isplitr; · iexact HR
    isplitl [HD1]; · iexact HD1
    iexact HO
  iintro ⟨HO, HF1, Hd1⟩
  ihave HD2 := (same (dTok c 2 : sProp 𝕄)) $$ [HP2 Hs2]
  · unfold dTok; isplitl [HP2]; · iexact HP2
    iexact Hs2
  iapply (wp_drn I κ c 2 _ rfl) $$ [HD2 HO]
  · isplitr; · iexact HR
    isplitl [HD2]; · iexact HD2
    iexact HO
  iintro ⟨HO, HF2, Hd2⟩
  ihave HD3 := (same (dTok c 3 : sProp 𝕄)) $$ [HP3 Hs3]
  · unfold dTok; isplitl [HP3]; · iexact HP3
    iexact Hs3
  iapply (wp_drn I κ c 3 _ rfl) $$ [HD3 HO]
  · isplitr; · iexact HR
    isplitl [HD3]; · iexact HD3
    iexact HO
  iintro ⟨HO, HF3, Hd3⟩
  ihave HD4 := (same (dTok c 4 : sProp 𝕄)) $$ [HP4 Hs4]
  · unfold dTok; isplitl [HP4]; · iexact HP4
    iexact Hs4
  iapply (wp_drn I κ c 4 _ rfl) $$ [HD4 HO]
  · isplitr; · iexact HR
    isplitl [HD4]; · iexact HD4
    iexact HO
  iintro ⟨HO, HF4, Hd4⟩
  ihave HD5 := (same (dTok c 5 : sProp 𝕄)) $$ [HP5 Hs5]
  · unfold dTok; isplitl [HP5]; · iexact HP5
    iexact Hs5
  iapply (wp_drn I κ c 5 _ rfl) $$ [HD5 HO]
  · isplitr; · iexact HR
    isplitl [HD5]; · iexact HD5
    iexact HO
  iintro ⟨HO, HF5, Hd5⟩
  ihave HD6 := (same (dTok c 6 : sProp 𝕄)) $$ [HP6 Hs6]
  · unfold dTok; isplitl [HP6]; · iexact HP6
    iexact Hs6
  iapply (wp_drn I κ c 6 _ rfl) $$ [HD6 HO]
  · isplitr; · iexact HR
    isplitl [HD6]; · iexact HD6
    iexact HO
  iintro ⟨HO, HF6, Hd6⟩
  ihave HD7 := (same (dTok c 7 : sProp 𝕄)) $$ [HP7 Hs7]
  · unfold dTok; isplitl [HP7]; · iexact HP7
    iexact Hs7
  iapply (wp_drn I κ c 7 _ rfl) $$ [HD7 HO]
  · isplitr; · iexact HR
    isplitl [HD7]; · iexact HD7
    iexact HO
  iintro ⟨HO, HF7, Hd7⟩
  ihave HD8 := (same (dTok c 8 : sProp 𝕄)) $$ [HP8 Hs8]
  · unfold dTok; isplitl [HP8]; · iexact HP8
    iexact Hs8
  iapply (wp_drn I κ c 8 _ rfl) $$ [HD8 HO]
  · isplitr; · iexact HR
    isplitl [HD8]; · iexact HD8
    iexact HO
  iintro ⟨HO, HF8, Hd8⟩
  ihave HD9 := (same (dTok c 9 : sProp 𝕄)) $$ [HP9 Hs9]
  · unfold dTok; isplitl [HP9]; · iexact HP9
    iexact Hs9
  iapply (wp_drn I κ c 9 _ rfl) $$ [HD9 HO]
  · isplitr; · iexact HR
    isplitl [HD9]; · iexact HD9
    iexact HO
  iintro ⟨HO, HF9, Hd9⟩
  ihave HD10 := (same (dTok c 10 : sProp 𝕄)) $$ [HP10 Hs10]
  · unfold dTok; isplitl [HP10]; · iexact HP10
    iexact Hs10
  iapply (wp_drn I κ c 10 _ rfl) $$ [HD10 HO]
  · isplitr; · iexact HR
    isplitl [HD10]; · iexact HD10
    iexact HO
  iintro ⟨HO, HF10, Hd10⟩
  ihave HD11 := (same (dTok c 11 : sProp 𝕄)) $$ [HP11 Hs11]
  · unfold dTok; isplitl [HP11]; · iexact HP11
    iexact Hs11
  iapply (wp_drn I κ c 11 _ rfl) $$ [HD11 HO]
  · isplitr; · iexact HR
    isplitl [HD11]; · iexact HD11
    iexact HO
  iintro ⟨HO, HF11, Hd11⟩
  rw [wpB, Sem.wp_ret]
  imodintro
  ihave Ha3 := (at_join c (accS (cwF c 3)) fullShare.right (A I 3 c)) $$ [Hd7 Ha3r]
  · isplitl [Hd7]; · iexact Hd7
    iexact Ha3r
  ihave Ha3 := (at_join c (accS (cwF c 3)) fullShare (A I 3 c)) $$ [Hd6 Ha3]
  · isplitl [Hd6]; · iexact Hd6
    iexact Ha3
  ihave Hb3 := (at_join c (accS (ccwF c 3)) fullShare.right (B I 3 c)) $$ [Hd9 Hb3r]
  · isplitl [Hd9]; · iexact Hd9
    iexact Hb3r
  ihave Hb3 := (at_join c (accS (ccwF c 3)) fullShare (B I 3 c)) $$ [Hd8 Hb3]
  · isplitl [Hd8]; · iexact Hd8
    iexact Hb3
  ihave Hc6 := (at_join c (comS 6) fullShare (rcvV I c 6)) $$ [Hd10 Hc6]
  · isplitl [Hd10]; · iexact Hd10
    iexact Hc6
  ihave Hc9 := (at_join c (comS 9) fullShare (rcvV I c 9)) $$ [Hd11 Hc9]
  · isplitl [Hd11]; · iexact Hd11
    iexact Hc9
  unfold workI work
  icases Hw with ⟨Hx, Hk, Hv, Hwqb, Hwob, Hctx, Hxp⟩
  iapply HK
  isplitl [Hx]; · iexact Hx
  isplitl [Hwq]; · iexact Hwq
  isplitl [Hk]; · iexact Hk
  isplitl [Hv]; · iexact Hv
  isplitl [Hwo]; · iexact Hwo
  isplitl [Ho]; · iexact Ho
  isplitl [Hctx]; · iexact Hctx
  isplitl [Hxp]; · iexact Hxp
  isplitl [Hwqb]; · iexists _; iexact Hwqb
  isplitl [Hwob]; · iexists _; iexact Hwob
  isplitl [Hd0 Hd1 Hd2 Ha3 Hd3 Hd4 Hd5 Hb3]
  · isplitl [Hd0]; · iexists _; iexact Hd0
    isplitl [Hd1]; · iexists _; iexact Hd1
    isplitl [Hd2]; · iexists _; iexact Hd2
    isplitl [Ha3]; · iexists _; iexact Ha3
    isplitl [Hd3]; · iexists _; iexact Hd3
    isplitl [Hd4]; · iexists _; iexact Hd4
    isplitl [Hd5]; · iexists _; iexact Hd5
    iexists _; iexact Hb3
  isplitl [Hc0 Hc1 Hc2 Hc3 Hc4 Hc5 Hc6 Hc7 Hc8 Hc9 Hc10 Hc11]
  · isplitl [Hc0]; · iexists _; iexact Hc0
    isplitl [Hc1]; · iexists _; iexact Hc1
    isplitl [Hc2]; · iexists _; iexact Hc2
    isplitl [Hc3]; · iexists _; iexact Hc3
    isplitl [Hc4]; · iexists _; iexact Hc4
    isplitl [Hc5]; · iexists _; iexact Hc5
    isplitl [Hc6]; · iexists _; iexact Hc6
    isplitl [Hc7]; · iexists _; iexact Hc7
    isplitl [Hc8]; · iexists _; iexact Hc8
    isplitl [Hc9]; · iexists _; iexact Hc9
    isplitl [Hc10]; · iexists _; iexact Hc10
    iexists _; iexact Hc11
  isplitl [HatB]; · iexact HatB
  isplitl [HF0 HE0 HF1 HE1 HF2 HE2 HF3 HE3 HF4 HE4 HF5 HE5 HF6 HE6 HF7 HE7 HF8 HE8 HF9 HE9 HF10 HE10 HF11 HE11]
  · rw [com_list (fun h => iprop(atPos ER (sndC c h) 1 ∅ 0 ∗ atPos ER (rcvC c h) 1 ∅ 0))]
    isplitl [HF0 HE0]
    · isplitl [HF0]; · iexact HF0
      iexact HE0
    isplitl [HF1 HE1]
    · isplitl [HF1]; · iexact HF1
      iexact HE1
    isplitl [HF2 HE2]
    · isplitl [HF2]; · iexact HF2
      iexact HE2
    isplitl [HF3 HE3]
    · isplitl [HF3]; · iexact HF3
      iexact HE3
    isplitl [HF4 HE4]
    · isplitl [HF4]; · iexact HF4
      iexact HE4
    isplitl [HF5 HE5]
    · isplitl [HF5]; · iexact HF5
      iexact HE5
    isplitl [HF6 HE6]
    · isplitl [HF6]; · iexact HF6
      iexact HE6
    isplitl [HF7 HE7]
    · isplitl [HF7]; · iexact HF7
      iexact HE7
    isplitl [HF8 HE8]
    · isplitl [HF8]; · iexact HF8
      iexact HE8
    isplitl [HF9 HE9]
    · isplitl [HF9]; · iexact HF9
      iexact HE9
    isplitl [HF10 HE10]
    · isplitl [HF10]; · iexact HF10
      iexact HE10
    isplitl [HF11]; · iexact HF11
    iexact HE11
  iexact HO

end Cert.KernelIdealProof
-- ==== Proof.Cells.lean ====
module

public import proofs.«01_k».proof.Proof.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # Opening and closing the exchange's own cells -/

/-- The own semaphores at zero, a reading's and a landing's for each copy. -/
def zeros (c : Dev nD) : sProp 𝕄 := bigSep Finset.univ fun h : Fin 12 => iprop(semVal (sndC c h) 0 ∗ semVal (rcvC c h) 0)

/-- The kernel's own semaphores at zero are the send and receive semaphores at zero. -/
theorem own_eq (c : Dev nD) : (Pipeline.ownSems0 (Ix := Unit) (Name := ℕ) (U := UU) (Lvl := ℕ) (Val := Elt F) (τ := τ) osem c : sProp 𝕄) = zeros (F := F) c := by
  unfold Pipeline.ownSems0 zeros
  rw [bigSep_univ_prod, bigSep_univ_eq_bigSepL [false, true] (by decide) (by decide)]
  exact (bigSep_sep' _ _ _).symm

/-- What a copy's cells are kept at until the kernel is entered. -/
def dorm (c : Dev nD) (h : Fin 12) : sProp 𝕄 :=
  iprop(openTok ER (sndC c h) ∗ openTok ER (rcvC c h) ∗ dutyTok ER (sndC c h) 0 false ∗ dutyTok ER (rcvC (tg h c) h) 0 false ∗ cred (tallyAt (rcvC c h) () N))

variable (I : Dev nD → Blocks F) (κ : GSem nD τ sig → ℕ)

/-- A copy's two counters at zero open its cells. -/
theorem wake (c : Dev nD) (h : Fin 12) : iprop(recs I κ ∗ (dorm (F := F) c h ∗ (semVal (sndC c h) 0 ∗ semVal (rcvC c h) 0))) ⊢ |={Set.univ}=> sems0 (F := F) c h := by
  unfold dorm sems0 sTok rTok
  iintro ⟨#HR, ⟨HoS, HoV, HtS, HtV, Hc⟩, ⟨H0, H1⟩⟩
  imod (Rounds.cell_open ER (Rd I) (g := sndC c h) (κ := κ (sndC c h)) (Es := Set.univ) (Set.mem_univ _)) $$ [HoS H0] with ⟨HaS, #HrS⟩
  · isplitr; · iapply (inv_at I κ (snd_mem c h)); iexact HR
    isplitl [HoS] <;> iassumption
  imod (Rounds.cell_open ER (Rd I) (g := rcvC c h) (κ := κ (rcvC c h)) (Es := Set.univ) (Set.mem_univ _)) $$ [HoV H1] with ⟨HaV, #HrV⟩
  · isplitr; · iapply (inv_at I κ (rcv_mem c h)); iexact HR
    isplitl [HoV] <;> iassumption
  imodintro
  isplitr; · iexact HrV
  isplitl [HtS HtV]
  · isplitl [HtS]; · iexact HtS
    isplitr; · iexact HrS
    iexact HtV
  isplitl [HaV Hc]
  · isplitl [HaV] <;> iassumption
  iexact HaS

/-- All copies' cells opened. -/
theorem wake_all (c : Dev nD) : iprop(recs I κ ∗ (bigSep Finset.univ (dorm (F := F) c)) ∗ zeros (F := F) c) ⊢ |={Set.univ}=> bigSep Finset.univ (sems0 (F := F) c) := by
  iintro ⟨#HR, HD, HZ⟩
  iapply (bigSep_fupd Finset.univ (sems0 (F := F) c))
  iapply (bigSep_with_persistent (S := Finset.univ) (R := recs I κ) (Φ := fun h => iprop(dorm (F := F) c h ∗ (semVal (sndC c h) 0 ∗ semVal (rcvC c h) 0))) (Ψ := fun h => iprop(|={Set.univ}=> sems0 (F := F) c h)) fun h _ => wake I κ c h)
  isplitr; · iexact HR
  iapply (Entails.of_eq (bigSep_sep' Finset.univ (dorm (F := F) c) (fun h : Fin 12 => (iprop(semVal (sndC c h) 0 ∗ semVal (rcvC c h) 0) : sProp 𝕄))).symm)
  isplitl [HD]; · iexact HD
  unfold zeros; iexact HZ

/-- A copy's cells at their ends give its counters back at zero. -/
theorem rest (c : Dev nD) (h : Fin 12) : iprop(recs I κ ∗ (atPos ER (sndC c h) 1 ∅ 0 ∗ atPos ER (rcvC c h) 1 ∅ 0)) ⊢ |={Set.univ}=> (iprop(semVal (sndC c h) 0 ∗ semVal (rcvC c h) 0) : sProp 𝕄) := by
  iintro ⟨#HR, ⟨HS, HV⟩⟩
  imod (Rounds.cell_close ER (Rd I) (g := sndC c h) (κ := κ (sndC c h)) (Es := Set.univ) (Set.mem_univ _) id (R := 1) (duties_later I (sndC c h))) $$ [HS] with H0
  · isplitr; · iapply (inv_at I κ (snd_mem c h)); iexact HR
    iexact HS
  imod (Rounds.cell_close ER (Rd I) (g := rcvC c h) (κ := κ (rcvC c h)) (Es := Set.univ) (Set.mem_univ _) id (R := 1) (duties_later I (rcvC c h))) $$ [HV] with H1
  · isplitr; · iapply (inv_at I κ (rcv_mem c h)); iexact HR
    iexact HV
  imodintro
  isplitl [H0] <;> iassumption

/-- All cells closed: every counter at zero. -/
theorem rest_all (c : Dev nD) : iprop(recs I κ ∗ (bigSep Finset.univ fun h : Fin 12 => iprop(atPos ER (sndC c h) 1 ∅ 0 ∗ atPos ER (rcvC c h) 1 ∅ 0)) ∗ atPos ER (barC c) 1 ∅ 0)
    ⊢ |={Set.univ}=> iprop(zeros (F := F) c ∗ semVal (barC c) 0) := by
  iintro ⟨#HR, HE, HB⟩
  imod (Rounds.cell_close ER (Rd I) (g := barC c) (κ := κ (barC c)) (Es := Set.univ) (Set.mem_univ _) id (R := 1) (duties_later I (barC c))) $$ [HB] with H0
  · isplitr; · iapply (inv_at I κ (bar_mem c)); iexact HR
    iexact HB
  ihave HE := (bigSep_with_persistent (S := Finset.univ) (R := recs I κ) (Φ := fun h : Fin 12 => iprop(atPos ER (sndC c h) 1 ∅ 0 ∗ atPos ER (rcvC c h) 1 ∅ 0)) (Ψ := fun h => iprop(|={Set.univ}=> (semVal (sndC c h) 0 ∗ semVal (rcvC c h) 0)))
    fun h _ => rest I κ c h) $$ [HE]
  · isplitr; · iexact HR
    iexact HE
  ihave HE := (bigSep_fupd Finset.univ (fun h : Fin 12 => (iprop(semVal (sndC c h) 0 ∗ semVal (rcvC c h) 0) : sProp 𝕄))) $$ HE
  imod HE with HE
  imodintro
  isplitl [HE]; · unfold zeros; iexact HE
  iexact H0

end Cert.KernelIdealProof
-- ==== Proof.Region0.lean ====
module

public import Idealize.ShloMosaic.Lib.Pipeline.TableIdle
public import proofs.«01_k».proof.Proof.Planes
public import proofs.«01_k».proof.Proof.Cells
public import proofs.«01_k».proof.Proof.Gen.KernelIdeal.Regions

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The kernel's region of the program -/

variable (m : (ℓ : Loc nD τ sig) → Buf (Elt F) ℓ)

/-- What each windowed array holds when the kernel is entered. -/
def arr₁ (c : Dev nD) (w : Fin 6) : Buf (Elt F) ((c : Thread nD τ).loc (Pipeline.arrRef spec0 w)) := V1 m c (Proc.devRef .tc (Pipeline.arrRef spec0 w))
/-- What a device's kernel is given. -/
def blocks (c : Dev nD) : Blocks F where
  x := ((cfg0.win 0).blk t0_0).view.read (Elt F) (arr₁ m c 0)
  wq := ((cfg0.win 1).blk t0_0).view.read (Elt F) (arr₁ m c 1)
  k := ((cfg0.win 2).blk t0_0).view.read (Elt F) (arr₁ m c 2)
  v := ((cfg0.win 3).blk t0_0).view.read (Elt F) (arr₁ m c 3)
  wo := ((cfg0.win 4).blk t0_0).view.read (Elt F) (arr₁ m c 4)

/-- What the body starts with. -/
def enter (c : Dev nD) : sProp 𝕄 := iprop((∃ κ, recs (blocks m) κ ∗ bars0 (F := F) c ∗ bigSep Finset.univ (sems0 (F := F) c)) ∗ levAts L lv)
/-- What is kept for the kernel from launch. -/
def kept (c : Dev nD) : sProp 𝕄 := iprop(∃ κ, recs (blocks m) κ ∗ bars0 (F := F) c ∗ bigSep Finset.univ (dorm (F := F) c))

/-- The buffers the kernel works in, and the generator's register. -/
def room (c : Dev nD) : sProp 𝕄 := iprop(Pipeline.scopedRest (Ix := Unit) (Name := ℕ) (U := UU) (Lvl := ℕ) (Val := Elt F) spec0 c ∗ ∃ r, prngReg c r)

/-- The kernel's proof data. -/
def dat (c : Dev nD) : Dat τ (Elt F) Unit ℕ UU ℕ cfg0 c where
  A := fun w => arr₁ m c w
  after := fun w _ => match w with
    | 0 => (blocks m c).x | 1 => (blocks m c).wq | 2 => (blocks m c).k | 3 => (blocks m c).v | 4 => (blocks m c).wo | 5 => outV (blocks m)
  Φ t := if t.val = 0 then iprop(enter m c ∗ room (F := F) c) else iprop((zeros (F := F) c ∗ semVal (barC c) 0) ∗ room (F := F) c)
  q _ := fullShare
  owed t := if t.val = 0 then O₀ c else 0

/-- The pipeline's data of the one call. -/
def pdats : (p : Fin 1) → (c : Dev nD) → Dat τ (Elt F) Unit ℕ UU ℕ (cfgs p) c
  | 0 => dat m

/-- A device's debts, as the pipeline states them. -/
theorem owesAt_intro {cfg : Pipeline.Cfg sig Λ₀} {c : Dev nD} (D : Dat τ (Elt F) Unit ℕ UU ℕ cfg c) (t : Fin (cfg.N + 1))
    (O : CellTallies nD τ sig Unit) (h0 : D.owed t = O) (hr : D.recorded t = Set.univ) : owes_ (F := F) c O ⊢ (D.owesAt () t : sProp 𝕄) := by
  unfold owes_ Dat.owesAt Pipeline.owesWithin Dat.bound; rw [h0, hr]
  iintro ⟨%W, HO⟩; iexists W; isplitr; · ipureintro; exact fun _ _ => Or.inl trivial
  iexact HO
/-- A device's debts, from the pipeline's statement. -/
theorem owesAt_elim {cfg : Pipeline.Cfg sig Λ₀} {c : Dev nD} (D : Dat τ (Elt F) Unit ℕ UU ℕ cfg c) (t : Fin (cfg.N + 1))
    (O : CellTallies nD τ sig Unit) (h0 : D.owed t = O) : (D.owesAt () t : sProp 𝕄) ⊢ owes_ (F := F) c O := by
  unfold owes_ Dat.owesAt Pipeline.owesWithin; rw [h0]
  iintro ⟨%W, -, HO⟩; iexists W; iexact HO

/-- The staged tokens are the device's. -/
theorem in0 (c : Dev nD) (d) : (owns (c : Thread nD τ) xM fullShare ((dat m c).before 0 t0_0 d) : sProp 𝕄) = at_ c xM fullShare (blocks m c).x := by
  rw [Dat.before_fetched _ _ _ (show (cfg0.win 0).fetch t0_0 = true by decide)]; exact owns_eq_rep _ _ _ _
/-- The staged query weights are the device's. -/
theorem in1 (c : Dev nD) (d) : (owns (c : Thread nD τ) wqM fullShare ((dat m c).before 1 t0_0 d) : sProp 𝕄) = at_ c wqM fullShare (blocks m c).wq := by
  rw [Dat.before_fetched _ _ _ (show (cfg0.win 1).fetch t0_0 = true by decide)]; exact owns_eq_rep _ _ _ _
/-- The staged keys are the device's. -/
theorem in2 (c : Dev nD) (d) : (owns (c : Thread nD τ) kM fullShare ((dat m c).before 2 t0_0 d) : sProp 𝕄) = at_ c kM fullShare (blocks m c).k := by
  rw [Dat.before_fetched _ _ _ (show (cfg0.win 2).fetch t0_0 = true by decide)]; exact owns_eq_rep _ _ _ _
/-- The staged values are the device's. -/
theorem in3 (c : Dev nD) (d) : (owns (c : Thread nD τ) vM fullShare ((dat m c).before 3 t0_0 d) : sProp 𝕄) = at_ c vM fullShare (blocks m c).v := by
  rw [Dat.before_fetched _ _ _ (show (cfg0.win 3).fetch t0_0 = true by decide)]; exact owns_eq_rep _ _ _ _
/-- The staged output weights are the device's. -/
theorem in4 (c : Dev nD) (d) : (owns (c : Thread nD τ) woM fullShare ((dat m c).before 4 t0_0 d) : sProp 𝕄) = at_ c woM fullShare (blocks m c).wo := by
  rw [Dat.before_fetched _ _ _ (show (cfg0.win 4).fetch t0_0 = true by decide)]; exact owns_eq_rep _ _ _ _

/-- The buffer of the heads' results with unknown contents. -/
theorem any_ctx (c : Dev nD) : any_ (F := F) c ctxM = (iprop(∃ f : Buf (Elt F) ((c : Thread nD τ).loc cc0_scratch4), ((c : Thread nD τ).loc cc0_scratch4) ↦{fullShare} f) : sProp 𝕄) := by
  unfold any_; rw [Memref.view_whole, View.set_whole]
/-- The buffer of the pair's tokens with unknown contents. -/
theorem any_xp (c : Dev nD) : any_ (F := F) c xpM = (iprop(∃ f : Buf (Elt F) ((c : Thread nD τ).loc cc0_scratch5), ((c : Thread nD τ).loc cc0_scratch5) ↦{fullShare} f) : sProp 𝕄) := by
  unfold any_; rw [Memref.view_whole, View.set_whole]
/-- The buffer of the rounded query weights with unknown contents. -/
theorem any_wqb (c : Dev nD) : any_ (F := F) c wqbM = (iprop(∃ f : Buf (Elt F) ((c : Thread nD τ).loc cc0_scratch6), ((c : Thread nD τ).loc cc0_scratch6) ↦{fullShare} f) : sProp 𝕄) := by
  unfold any_; rw [Memref.view_whole, View.set_whole]
/-- The buffer of the rounded output weights with unknown contents. -/
theorem any_wob (c : Dev nD) : any_ (F := F) c wobM = (iprop(∃ f : Buf (Elt F) ((c : Thread nD τ).loc cc0_scratch7), ((c : Thread nD τ).loc cc0_scratch7) ↦{fullShare} f) : sProp 𝕄) := by
  unfold any_; rw [Memref.view_whole, View.set_whole]
/-- The staged result, its contents forgotten. -/
theorem any_own (c : Dev nD) (X : Vec F S1024x1024 .f32) : (owns (c : Thread nD τ) oM fullShare X : sProp 𝕄) ⊢ any_ (F := F) c oM := by
  unfold owns; iintro ⟨%f, -, H⟩; iexists f; iexact H
/-- The body from the region's invariant and the staged blocks to the region's end. -/
theorem body_run (c : Dev nD) : iprop((enter m c ∗ room (F := F) c) ∗ (dat m c).owesAt () t0_0.castSucc ∗ (∃ d, owns (c : Thread nD τ) xM fullShare ((dat m c).before 0 t0_0 d)) ∗ (∃ d, owns (c : Thread nD τ) wqM fullShare ((dat m c).before 1 t0_0 d)) ∗ (∃ d, owns (c : Thread nD τ) kM fullShare ((dat m c).before 2 t0_0 d)) ∗ (∃ d, owns (c : Thread nD τ) vM fullShare ((dat m c).before 3 t0_0 d)) ∗ (∃ d, owns (c : Thread nD τ) woM fullShare ((dat m c).before 4 t0_0 d)) ∗ (∃ d, owns (c : Thread nD τ) oM fullShare ((dat m c).before 5 t0_0 d)))
    ⊢ wpB c (cc0_body (F := F) xM (Memref.isWhole_whole _) wqM (Memref.isWhole_whole _) kM (Memref.isWhole_whole _) vM (Memref.isWhole_whole _) woM (Memref.isWhole_whole _) oM (Memref.isWhole_whole _) accM (Memref.isWhole_whole _) comM (Memref.isWhole_whole _) cc0_scratch2 cc0_scratch3 ctxM (Memref.isWhole_whole _) xpM (Memref.isWhole_whole _) wqbM (Memref.isWhole_whole _) wobM (Memref.isWhole_whole _)) fun _ => iprop(((zeros (F := F) c ∗ semVal (barC c) 0) ∗ room (F := F) c) ∗ (dat m c).owesAt () t0_0.succ ∗ owns (c : Thread nD τ) xM fullShare ((dat m c).after 0 t0_0) ∗ owns (c : Thread nD τ) wqM fullShare ((dat m c).after 1 t0_0) ∗ owns (c : Thread nD τ) kM fullShare ((dat m c).after 2 t0_0) ∗ owns (c : Thread nD τ) vM fullShare ((dat m c).after 3 t0_0) ∗ owns (c : Thread nD τ) woM fullShare ((dat m c).after 4 t0_0) ∗ owns (c : Thread nD τ) oM fullShare ((dat m c).after 5 t0_0)) := by
  unfold enter room
  rw [scopedRest0_eq]
  iintro ⟨⟨⟨⟨%κ, #HR, HB, HS⟩, #Hlev⟩, ⟨Hacc, Hcom, Hctx, Hxp, Hwqb, Hwob⟩, Hreg⟩, HO, ⟨%d0, H0⟩, ⟨%d1, H1⟩, ⟨%d2, H2⟩, ⟨%d3, H3⟩, ⟨%d4, H4⟩, ⟨%d5, H5⟩⟩
  ihave HO := (owesAt_elim (dat m c) t0_0.castSucc (O₀ c) rfl) $$ HO
  ihave H0 := (Entails.of_eq (in0 m c d0)) $$ H0
  ihave H1 := (Entails.of_eq (in1 m c d1)) $$ H1
  ihave H2 := (Entails.of_eq (in2 m c d2)) $$ H2
  ihave H3 := (Entails.of_eq (in3 m c d3)) $$ H3
  ihave H4 := (Entails.of_eq (in4 m c d4)) $$ H4
  ihave H5 := (any_own (F := F) c _) $$ H5
  ihave Hacc := (acc_planes (F := F) c) $$ Hacc
  ihave Hcom := (com_planes (F := F) c) $$ Hcom
  iapply (wp_fupd _ _)
  iapply (run_body (blocks m) κ c _)
  isplitr; · iexact HR
  isplitr; · iexact Hlev
  isplitl [H0]; · iexact H0
  isplitl [H1]; · iexact H1
  isplitl [H2]; · iexact H2
  isplitl [H3]; · iexact H3
  isplitl [H4]; · iexact H4
  isplitl [H5]; · iexact H5
  isplitl [Hctx]; · iapply (Entails.of_eq (any_ctx c).symm); iexact Hctx
  isplitl [Hxp]; · iapply (Entails.of_eq (any_xp c).symm); iexact Hxp
  isplitl [Hwqb]; · iapply (Entails.of_eq (any_wqb c).symm); iexact Hwqb
  isplitl [Hwob]; · iapply (Entails.of_eq (any_wob c).symm); iexact Hwob
  isplitl [Hacc]; · iexact Hacc
  isplitl [Hcom]; · iexact Hcom
  isplitl [HB]; · iexact HB
  isplitl [HS]; · iexact HS
  isplitl [HO]; · iexact HO
  iintro ⟨H0, H1, H2, H3, H4, H5, Hctx, Hxp, Hwqb, Hwob, Hacc, Hcom, HatB, HE, HO⟩
  imod (rest_all (blocks m) κ c) $$ [HE HatB] with HZ
  · isplitr; · iexact HR
    isplitl [HE] <;> iassumption
  imodintro
  ihave Hacc := (acc_stack (F := F) c) $$ Hacc
  ihave Hcom := (com_stack (F := F) c) $$ Hcom
  isplitl [HZ Hacc Hcom Hctx Hxp Hwqb Hwob Hreg]
  · isplitl [HZ]; · iexact HZ
    isplitr [Hreg]
    · isplitl [Hacc]; · iexact Hacc
      isplitl [Hcom]; · iexact Hcom
      isplitl [Hctx]; · iapply (Entails.of_eq (any_ctx c)); iexact Hctx
      isplitl [Hxp]; · iapply (Entails.of_eq (any_xp c)); iexact Hxp
      isplitl [Hwqb]; · iapply (Entails.of_eq (any_wqb c)); iexact Hwqb
      iapply (Entails.of_eq (any_wob c)); iexact Hwob
    iexact Hreg
  isplitl [HO]; · iapply (owesAt_intro (dat m c) t0_0.succ 0 rfl rfl); iexact HO
  isplitl [H0]; · iapply (owns_of_rep (c : Thread nD τ) xM fullShare _); iexact H0
  isplitl [H1]; · iapply (owns_of_rep (c : Thread nD τ) wqM fullShare _); iexact H1
  isplitl [H2]; · iapply (owns_of_rep (c : Thread nD τ) kM fullShare _); iexact H2
  isplitl [H3]; · iapply (owns_of_rep (c : Thread nD τ) vM fullShare _); iexact H3
  isplitl [H4]; · iapply (owns_of_rep (c : Thread nD τ) woM fullShare _); iexact H4
  iapply (owns_of_rep (c : Thread nD τ) oM fullShare _); iexact H5

set_option maxHeartbeats 0 in
set_option maxRecDepth 65536 in
/-- The body's obligation. -/
theorem body (c : Dev nD) : BodyObligation (dat m c) defs₀ Variants.none () Set.univ := fun t => by
  obtain rfl := fin_N0 t
  rw [bigSep_W0, bigSep_W0]
  exact body_run m c

end Cert.KernelIdealProof
-- ==== Proof.Region.lean ====
module

public import proofs.«01_k».proof.Proof.Region0

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The region's record -/

/-- What the kernel leaves in its result. -/
def res (c : Dev nD) : Buf (Elt F) ((c : Thread nD τ).loc main_v24) := (dat m c).arrAt 5 cfg0.N
/-- What the kernel leaves. -/
def outs : Outs (F := F) := fun _ r c => if h : r = main_v24 then h ▸ res m c else V1 m c r
/-- The call's result array holds the kernel's result. -/
theorem outs_v24 (n : ℕ) (c : Dev nD) : outs m n main_v24 c = res m c := by unfold outs; rw [dif_pos rfl]

/-- The side conditions of the call's pipeline. -/
theorem kitP : Pipeline.PLaunchFacts (nD := nD) (τ := τ) (pcfgs (F := F)) 0 where
  cellOf_inj a := by rw [show a = adm from Subsingleton.elim a adm]; exact cellOf_inj
  win := winFacts0
  pre := Pipeline.PreFacts.none _
  block_pos := block_pos0
  arr_whole := arr_whole0
  stage_whole := stage_whole0

/-- The side conditions on the kernel's own semaphores. -/
theorem own_facts : Pipeline.OwnSemFacts spec0 osem := by decide

/-- The pipeline's own semaphores take no part in the protocol. -/
theorem idle_stage : ∀ (w : Fin 6) (s : Fin (cfg0.win w).nbuf), role (.dma ((cfg0.win w).sem s)) = .idle := by decide
/-- What a device owes at first is owed at a positive level. -/
theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have low : ∀ k : Fin 12, 0 < lvl k := by decide
  rcases Nat.add_pos_iff_pos_or_pos.mp h with h | h
  · rcases Nat.add_pos_iff_pos_or_pos.mp h with h | h
    · obtain ⟨k, -, rfl⟩ := owe_pos h
      exact ⟨by rw [L_tc]; exact Finset.mem_singleton_self _, by rw [lv_rcv]; exact low k⟩
    · rw [tallyAt_apply] at h
      split at h
      · next hg => obtain ⟨rfl, -⟩ := hg; exact ⟨by rw [L_tc]; exact Finset.mem_singleton_self _, by rw [lv_bar]; exact Nat.one_pos⟩
      · exact absurd h (Nat.lt_irrefl 0)
  · rw [tallyAt_apply] at h
    split at h
    · next hg => obtain ⟨rfl, -⟩ := hg; exact ⟨by rw [L_tc]; exact Finset.mem_singleton_self _, by rw [lv_bar]; exact Nat.one_pos⟩
    · exact absurd h (Nat.lt_irrefl 0)

/-- The pipeline's waits lie below everything that is owed. -/
theorem cut : Pipeline.LevelCutOwed (pcfgs (F := F)) adm (pdats m) () L lv 0 (fun _ => 0) where
  hι c w s := by rw [L_tc]; exact Finset.mem_singleton_self _
  hιb c w s := by
    show lv ((c : Thread nD τ), .dma ((cfg0.win w).sem s)) () ≤ 0
    dsimp only [lv]; rw [idle_stage w s]
  hD c t g i h := by
    have h : 0 < (if t.val = 0 then O₀ c else 0) g i := h
    split at h
    · exact O₀_pos h
    · exact absurd h (Nat.lt_irrefl 0)

/-- The call leaves its arguments as they were. -/
theorem in_kept (c : Dev nD) (w : Fin 6) (hin : (cfg0.win w).isOut = false) (hne : Pipeline.arrRef spec0 w ≠ main_v24) :
    (dat m c).arrAt w cfg0.N = V2 m (outs m) c (Proc.devRef .tc (Pipeline.arrRef spec0 w)) := by
  exact ((dat m c).arrAt_in w hin cfg0.N).trans (V2_of m (outs m) c (Pipeline.arrRef spec0 w) (by simpa using hne)).symm
/-- The call leaves the kernel's result in its result array. -/
theorem out_kept (c : Dev nD) : (dat m c).arrAt 5 cfg0.N = V2 m (outs m) c (Proc.devRef .tc (Pipeline.arrRef spec0 5)) := by
  show res m c = Function.update (V1 m c) _ (outs m 2 main_v24 c) (Proc.devRef .tc main_v24)
  rw [Function.update_self, outs_v24]

set_option backward.isDefEq.respectTransparency.types false in
/-- The kernel's region. -/
def reg0 : Pipeline.RegionSeg (pcfgs (F := F)) adm (pdats m) () defs₀ Variants.none L lv 0 :=
  Pipeline.RegionSeg.ofTalk (pcfgs (F := F)) adm (pdats m) () defs₀ Variants.none L lv 0 osem own_facts
    ∅ (Pipeline.ucRefs τ sig \ Pipeline.arrRefs spec0) (Finset.empty_subset _) kitP rfl
    (fun c => (body m c).loose) (fun _ => 0) O₀ (fun c => (zero_add (O₀ c)).symm) (fun c => rfl) (fun c => rfl)
    (fun c w => by fin_cases w <;> rfl)
    (V1 m) (V2 m (outs m))
    (fun c b hb => by
      refine Function.update_of_ne (fun hbe => ?_) _ _
      subst hbe
      exact (Finset.mem_sdiff.mp (Finset.mem_sdiff.mp hb).1).2 (by decide))
    (kept m) (fun c => semVal (barC c) 0) (enter m) (fun c => semVal (barC c) 0)
    (fun c => by
      unfold kept enter
      rw [own_eq]
      iintro ⟨⟨%κ, #HR, HB, HD⟩, HZ, Hlev⟩
      imod (wake_all (blocks m) κ c) $$ [HD HZ] with HS
      · isplitr; · iexact HR
        isplitl [HD] <;> iassumption
      imodintro
      isplitr [Hlev]
      · iexists κ
        isplitr; · iexact HR
        isplitl [HB] <;> iassumption
      iexact Hlev)
    (fun c => by
      rw [show (pdats m 0 c).Φ 0 = iprop(enter m c ∗ room (F := F) c) from rfl]
      unfold room
      iintro ⟨Hr, Hp, -, HX⟩
      isplitl [HX]; · iexact HX
      isplitl [Hr] <;> iassumption)
    (fun c => by
      rw [show (pdats m 0 c).Φ (Fin.last _) = iprop((zeros (F := F) c ∗ semVal (barC c) 0) ∗ room (F := F) c) from rfl, own_eq]
      unfold room
      iintro ⟨⟨HZ, HB⟩, Hr, Hp⟩
      isplitl [Hr]; · iexact Hr
      isplitl [Hp]; · iexact Hp
      isplitr; · unfold StableHlo.held; rw [BI.bigSep_empty]; iempintro
      isplitl [HZ] <;> iassumption)
    (fun c => by iintro H; imodintro; iexact H)
    (fun _ => 0) (cut m) (fun _ => iprop(emp))
    (fun c w => by fin_cases w <;> rfl)
    (fun c w => by
      fin_cases w
      · exact in_kept m c 0 rfl (by decide)
      · exact in_kept m c 1 rfl (by decide)
      · exact in_kept m c 2 rfl (by decide)
      · exact in_kept m c 3 rfl (by decide)
      · exact in_kept m c 4 rfl (by decide)
      · exact out_kept m c)

end Cert.KernelIdealProof
-- ==== Proof.Launch.lean ====
module

public import proofs.«01_k».proof.Proof.Region

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The launch: tokens, credits, ghost state -/

/-! ## Neighbours as permutations -/

/-- Each device to its left neighbour. -/
def lfE : Dev nD ≃ Dev nD := ⟨lf, rt, rt_lf, lf_rt⟩
/-- Each device to its right neighbour. -/
def rtE : Dev nD ≃ Dev nD := ⟨rt, lf, lf_rt, rt_lf⟩
/-- Each device to where its copy lands. -/
def tgE (h : Fin 12) : Dev nD ≃ Dev nD := ⟨tg h, fr h, fr_to h, tg_fr h⟩

/-! ## What is owed to each cell in all -/

/-- A receive semaphore determines its device and its slot. -/
theorem rcv_inj {d c : Dev nD} {k h : Fin 12} (e : rcvC d k = rcvC c h) : d = c ∧ k = h := by
  have e2 : Role.rcv k = Role.rcv h := (role_rcv k).symm.trans ((congrArg (fun g : GSem nD τ sig => role g.2) e).trans (role_rcv h))
  exact ⟨congrArg (fun g : GSem nD τ sig => g.1.1) e, by injection e2⟩
/-- A receive semaphore is not a barrier semaphore. -/
theorem rcv_ne_bar (d c : Dev nD) (k : Fin 12) : rcvC d k ≠ barC c := fun e => by
  have e2 : Role.rcv k = Role.bar := (role_rcv k).symm.trans (congrArg (fun g : GSem nD τ sig => role g.2) e)
  cases e2

/-- The copies still to be started owe nothing to a barrier. -/
theorem owe_bar (d c : Dev nD) : ∀ l : List (Fin 12), owe d l (barC c) () = 0
  | [] => rfl
  | k :: l => by
    show (owe d l + tallyAt (rcvC (tg k d) k) () N) (barC c) () = 0
    rw [Pi.add_apply, Finsupp.add_apply, owe_bar d c l, tallyAt_ne_cell (rcv_ne_bar _ _ _).symm]; rfl
/-- What the copies still to be started owe to a receive semaphore: one copy's amount for each of them that lands there. -/
theorem owe_rcv (d c : Dev nD) (h : Fin 12) : ∀ l : List (Fin 12), owe d l (rcvC c h) () = if tg h d = c then l.count h * N else 0
  | [] => by rw [List.count_nil, Nat.zero_mul, ite_self]; rfl
  | k :: l => by
    show (owe d l + tallyAt (rcvC (tg k d) k) () N) (rcvC c h) () = _
    rw [Pi.add_apply, Finsupp.add_apply, owe_rcv d c h l, tallyAt_apply, List.count_cons]
    by_cases hk : k = h
    · subst hk
      by_cases hc : tg k d = c
      · subst hc; rw [if_pos rfl, if_pos rfl, if_pos ⟨rfl, rfl⟩]; simp [Nat.add_mul]
      · rw [if_neg hc, if_neg hc, if_neg (show ¬(rcvC c k = rcvC (tg k d) k ∧ () = ()) from fun e => hc (rcv_inj e.1.symm).1)]
    · rw [if_neg (show ¬(rcvC c h = rcvC (tg k d) k ∧ () = ()) from fun e => hk (rcv_inj e.1.symm).2), beq_false_of_ne hk]; simp

/-- What a device owes to a barrier at first: one unit if it is a neighbour. -/
theorem due_bar (d c : Dev nD) : O₀ d (barC c) () = (if rt d = c then 1 else 0) + (if lf d = c then 1 else 0) := by
  have e : ∀ a : Dev nD, (tallyAt (barC a) () 1 : CellTallies nD τ sig Unit) (barC c) () = if a = c then 1 else 0 := fun a => by
    rw [tallyAt_apply]
    exact if_congr ⟨fun h => (congrArg (fun g : GSem nD τ sig => g.1.1) h.1).symm, fun h => by rw [h]; exact ⟨rfl, rfl⟩⟩ rfl rfl
  unfold O₀
  rw [Pi.add_apply, Finsupp.add_apply, Pi.add_apply, Finsupp.add_apply, owe_bar, e, e, Nat.zero_add]
/-- What a device owes to a receive semaphore at first: one copy's amount if the slot is filled from it. -/
theorem due_rcv (d c : Dev nD) (h : Fin 12) : O₀ d (rcvC c h) () = if d = fr h c then N else 0 := by
  unfold O₀
  rw [Pi.add_apply, Finsupp.add_apply, Pi.add_apply, Finsupp.add_apply, tallyAt_ne_cell (rcv_ne_bar _ _ _), tallyAt_ne_cell (rcv_ne_bar _ _ _), owe_rcv,
    show allCopies.count h = 1 from by revert h; decide]
  show (if tg h d = c then 1 * N else 0) + 0 + 0 = _
  simp only [Nat.one_mul, Nat.add_zero]
  exact if_congr ⟨fun e => by rw [← e, fr_to], fun e => by rw [e, tg_fr]⟩ rfl rfl

/-- All devices together owe two units to each barrier. -/
theorem credit_bar (c : Dev nD) : tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => due_bar d c]
  revert c; decide
/-- All devices together owe one copy's amount to each receive semaphore. -/
theorem credit_rcv (c : Dev nD) (h : Fin 12) : tallyOn (rcvC c h) (launchCredit (Pipeline.owing O₀) 0 (rcvC c h)) = (tallyAt (rcvC c h) () N : CellTallies nD τ sig Unit) := by
  unfold tallyAt; refine congrArg _ (Finsupp.ext fun u => ?_); cases u
  rw [Pipeline.launchCredit_owing, Finsupp.single_eq_same, Finset.sum_congr rfl fun d _ => due_rcv d c h, Finset.sum_ite_eq' Finset.univ (fr h c) fun _ => N,
    if_pos (Finset.mem_univ _)]

/-- The landings' semaphores. -/
def rcvEmb : Fin 12 ↪ SemLoc sig := ⟨fun h => .dma (vS h), by decide⟩

/-- A device's credit at launch: for both signals, and for each landing. -/
theorem creds (c : Dev nD) : (Pipeline.launchCred O₀ c : sProp 𝕄)
    ⊢ iprop(cred (tallyAt (barC c) () 2) ∗ bigSep Finset.univ fun h : Fin 12 => cred (tallyAt (rcvC c h) () N)) := by
  unfold Pipeline.launchCred
  rw [bigSep_univ_at _ (SemLoc.reg bS), credit_bar]
  refine sep_mono_right ?_
  have hs : (Finset.univ.map rcvEmb : Finset (SemLoc sig)) ⊆ Finset.univ.erase (SemLoc.reg bS) := by
    intro s hs
    obtain ⟨h, -, rfl⟩ := Finset.mem_map.mp hs
    exact Finset.mem_erase.mpr ⟨(fun e => nomatch e), Finset.mem_univ _⟩
  refine (BI.bigSep_subset hs).trans ?_
  rw [bigSep_map]
  exact Entails.of_eq (bigSep_congr fun (h : Fin 12) _ => congrArg (fun T => (cred T : sProp 𝕄)) (credit_rcv c h))

/-! ## The tokens -/

/-- Every duty of the exchange, by device: two signals to it, its copies' readings and landings. -/
def duty (x : Dev nD × (Bool ⊕ (Bool × Fin 12))) : GSem nD τ sig × ℕ × Bool :=
  match x.2 with
  | .inl d => (barC x.1, 0, d)
  | .inr k => (((x.1 : Thread nD τ), osem k), 0, false)
/-- The kernel's own semaphores are not the barrier. -/
theorem osem_ne_bar (k : Bool × Fin 12) : osem k ≠ .reg bS := fun e => nomatch e
/-- Different duties have different names. -/
theorem duty_inj : Function.Injective duty := by
  rintro ⟨c, x⟩ ⟨c', x'⟩ h
  have hc : c = c' := by
    have := congrArg (fun p : GSem nD τ sig × ℕ × Bool => p.1.1.1) h
    cases x <;> cases x' <;> exact this
  subst hc
  cases x with
  | inl d => cases x' with
    | inl d' => rw [show d = d' from congrArg (fun p : GSem nD τ sig × ℕ × Bool => p.2.2) h]
    | inr k => exact absurd (congrArg (fun p : GSem nD τ sig × ℕ × Bool => p.1.2) h).symm (osem_ne_bar k)
  | inr k => cases x' with
    | inl d' => exact absurd (congrArg (fun p : GSem nD τ sig × ℕ × Bool => p.1.2) h) (osem_ne_bar k)
    | inr k' => rw [osem_inj (congrArg (fun p : GSem nD τ sig × ℕ × Bool => p.1.2) h)]
/-- Every duty's token. -/
def tokens : Finset (GSem nD τ sig × ℕ × Bool) := Finset.univ.map ⟨duty, duty_inj⟩

/-- The tokens, device by device. -/
theorem tokens_eq : (bigSep tokens fun x => (dutyTok ER x.1 x.2.1 x.2.2 : sProp 𝕄))
    = bigSep Finset.univ fun c : Dev nD => iprop((dutyTok ER (barC c) 0 true ∗ dutyTok ER (barC c) 0 false)
        ∗ ((bigSep Finset.univ fun h : Fin 12 => dutyTok ER (sndC c h) 0 false) ∗ (bigSep Finset.univ fun h : Fin 12 => dutyTok ER (rcvC c h) 0 false))) := by
  unfold tokens
  rw [bigSep_map, bigSep_univ_prod]
  refine bigSep_congr fun c _ => ?_
  rw [BI.bigSep_univ_sum, bigSep_univ_eq_bigSepL [true, false] (by decide) (by decide), bigSep_univ_prod, bigSep_univ_eq_bigSepL [false, true] (by decide) (by decide)]
  rfl

/-- Devices and copies in either order. -/
theorem swap (Φ : Dev nD → Fin 12 → sProp 𝕄) : (bigSep Finset.univ fun c : Dev nD => bigSep Finset.univ fun h : Fin 12 => Φ c h)
    = bigSep Finset.univ fun h : Fin 12 => bigSep Finset.univ fun c : Dev nD => Φ c h := by
  have e := bigSep_univ_prod (fun p : Dev nD × Fin 12 => Φ p.1 p.2)
  have e' := bigSep_univ_prod (fun p : Fin 12 × Dev nD => Φ p.2 p.1)
  exact e.symm.trans ((bigSep_univ_equiv (Equiv.prodComm (Fin 12) (Dev nD)) (fun p : Dev nD × Fin 12 => Φ p.1 p.2)).trans e')

/-- The tokens a device pays with. -/
def pays (c : Dev nD) : sProp 𝕄 :=
  iprop((dutyTok ER (barC (nb c false)) 0 true ∗ dutyTok ER (barC (nb c true)) 0 false)
    ∗ ((bigSep Finset.univ fun h : Fin 12 => dutyTok ER (sndC c h) 0 false) ∗ (bigSep Finset.univ fun h : Fin 12 => dutyTok ER (rcvC (tg h c) h) 0 false)))

/-- The signals' and the landings' tokens, each handed to the device that pays it. -/
theorem tokens_around : (bigSep Finset.univ fun c : Dev nD => iprop((dutyTok ER (barC c) 0 true ∗ dutyTok ER (barC c) 0 false)
        ∗ ((bigSep Finset.univ fun h : Fin 12 => dutyTok ER (sndC c h) 0 false) ∗ (bigSep Finset.univ fun h : Fin 12 => (dutyTok ER (rcvC c h) 0 false : sProp 𝕄)))))
    = bigSep Finset.univ (pays (F := F)) := by
  unfold pays
  rw [bigSep_sep', bigSep_sep', bigSep_sep', bigSep_sep', bigSep_sep', bigSep_sep',
    bigSep_univ_equiv lfE (fun c : Dev nD => (dutyTok ER (barC c) 0 true : sProp 𝕄)),
    bigSep_univ_equiv rtE (fun c : Dev nD => (dutyTok ER (barC c) 0 false : sProp 𝕄)),
    swap (fun (c : Dev nD) (h : Fin 12) => (dutyTok ER (rcvC c h) 0 false : sProp 𝕄)),
    bigSep_congr (s := Finset.univ) (Ψ := fun h : Fin 12 => bigSep Finset.univ fun c : Dev nD => (dutyTok ER (rcvC (tg h c) h) 0 false : sProp 𝕄))
      (fun h _ => bigSep_univ_equiv (tgE h) (fun c : Dev nD => (dutyTok ER (rcvC c h) 0 false : sProp 𝕄))),
    ← swap (fun (c : Dev nD) (h : Fin 12) => (dutyTok ER (rcvC (tg h c) h) 0 false : sProp 𝕄))]
  rfl

/-! ## The launch -/

/-- The barrier semaphores and the copies' semaphores are different ones. -/
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The exchange's ghost state at launch, with device 0. -/
def G (c : Dev nD) : sProp 𝕄 := if c = 0 then BI.own (ER (launchOf barCells scCells tokens)) else iprop(emp)
/-- The devices' shares of the protocol's ghost state make up the whole. -/
theorem G_all : bigSep Finset.univ (G (F := F)) = BI.own (ER (launchOf barCells scCells tokens)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- The only semaphore that outlives the kernel is the barrier, at zero. -/
theorem sems_eq (c : Dev nD) : (unscopedSems0 c : sProp 𝕄) = semVal (barC c) 0 := by
  unfold unscopedSems0
  rw [show (Finset.univ.filter fun sm : SemLoc sig => ¬ sm.isScoped .tc) = {SemLoc.reg bS} from by decide, BI.bigSep_singleton]

variable (m : (ℓ : Loc nD τ sig) → Buf (Elt F) ℓ) (ρ : Dev nD → PrngReg)

/-- What rides beside the buffers: to the kernel, what is kept for it; after it, the barrier's counter at zero. -/
def ride : Fin 2 → Dev nD → sProp 𝕄
  | 0, c => iprop(kept m c ∗ (∃ r, prngReg c r) ∗ ∃ W, owes (c : Thread nD τ) (O₀ c) W)
  | 1, c => iprop(semVal (barC c) 0 ∗ ∃ W, owes (c : Thread nD τ) (0 : CellTallies nD τ sig Unit) W)

/-- A device's own part of the launch. -/
def own₀ (c : Dev nD) : sProp 𝕄 :=
  iprop((cred (tallyAt (barC c) () 2) ∗ bigSep Finset.univ fun h : Fin 12 => cred (tallyAt (rcvC c h) () N)) ∗ owes (c : Thread nD τ) (O₀ c) ∅ ∗ prngReg c (ρ c))

/-- The devices' resting semaphores together. -/
theorem dorm_all (c : Dev nD) : bigSep Finset.univ (dorm (F := F) c)
    = iprop((bigSep Finset.univ fun h : Fin 12 => openTok ER (sndC c h)) ∗ (bigSep Finset.univ fun h : Fin 12 => openTok ER (rcvC c h))
      ∗ (bigSep Finset.univ fun h : Fin 12 => dutyTok ER (sndC c h) 0 false) ∗ (bigSep Finset.univ fun h : Fin 12 => dutyTok ER (rcvC (tg h c) h) 0 false)
      ∗ (bigSep Finset.univ fun h : Fin 12 => cred (tallyAt (rcvC c h) () N))) := by
  unfold dorm
  rw [bigSep_sep', bigSep_sep', bigSep_sep', bigSep_sep']

/-- Two conjunctions over devices make one. -/
theorem both {s : Finset (Dev nD)} {P Q : Dev nD → sProp 𝕄} : (bigSep s P ∗ bigSep s Q : sProp 𝕄) ⊢ bigSep s fun c => iprop(P c ∗ Q c) :=
  Entails.of_eq (bigSep_sep' s P Q).symm
/-- A conjunction over devices of pairs comes apart into two. -/
theorem apart {s : Finset (Dev nD)} {P Q : Dev nD → sProp 𝕄} : (bigSep s fun c => iprop(P c ∗ Q c)) ⊢ (bigSep s P ∗ bigSep s Q : sProp 𝕄) :=
  Entails.of_eq (bigSep_sep' s P Q)

/-- What a device brings along into the kernel, put together. -/
theorem ride_intro (κ : GSem nD τ sig → ℕ) (c : Dev nD) :
    iprop(recs (blocks m) κ ∗ (own₀ (F := F) ρ c ∗ (atPos ER (barC c) 0 ∅ 0 ∗ ((bigSep Finset.univ fun h : Fin 12 => iprop(openTok ER (sndC c h) ∗ openTok ER (rcvC c h))) ∗ pays (F := F) c)))) ⊢ ride m 0 c := by
  unfold own₀ pays
  show _ ⊢ iprop(kept m c ∗ (∃ r, prngReg c r) ∗ ∃ W, owes (c : Thread nD τ) (O₀ c) W)
  unfold kept
  iintro ⟨#HR, ⟨⟨HcB, HcV⟩, HO, Hp⟩, HaB, Hop, ⟨HtL, HtR⟩, HtS, HtV⟩
  isplitr [HO Hp]
  · iexists κ
    isplitr; · iexact HR
    isplitl [HtL HtR HaB HcB]
    · unfold bars0
      isplitl [HtL]; · iexact HtL
      isplitl [HtR]; · iexact HtR
      isplitl [HaB] <;> iassumption
    iapply (Entails.of_eq (dorm_all (F := F) c).symm)
    ihave Hop := (Entails.of_eq (bigSep_sep' Finset.univ (fun h : Fin 12 => (openTok ER (sndC c h) : sProp 𝕄)) (fun h : Fin 12 => openTok ER (rcvC c h)))) $$ Hop
    icases Hop with ⟨HoS, HoV⟩
    isplitl [HoS]; · iexact HoS
    isplitl [HoV]; · iexact HoV
    isplitl [HtS]; · iexact HtS
    isplitl [HtV]; · iexact HtV
    iexact HcV
  isplitl [Hp]; · iexists (ρ c); iexact Hp
  iexists ∅; iexact HO

/-- The launch makes what every device keeps for its kernel. -/
theorem launch : iprop((bigSep Finset.univ fun c : Dev nD => iprop(unscopedSems0 c ∗ owes (c : Thread nD τ) (O₀ c) ∅ ∗ Pipeline.launchCred O₀ c ∗ prngReg c (ρ c) ∗ G (F := F) c)) ∗ levAts L lv)
    ⊢ (|={Set.univ}=> bigSep Finset.univ (ride m 0) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(own₀ ρ c ∗ (semVal (barC c) 0 ∗ G (F := F) c)) : sProp 𝕄) := by
    rw [sems_eq]
    unfold own₀
    iintro ⟨Hv, HO, Hcr, Hp, HG⟩
    ihave Hc := (creds (F := F) c) $$ Hcr
    isplitl [Hc HO Hp]
    · isplitl [Hc]; · iexact Hc
      isplitl [HO] <;> iassumption
    isplitl [Hv] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun h : Fin 12 => iprop(openTok ER (sndC c h) ∗ openTok ER (rcvC c h))) :=
    Entails.of_eq (by
      rw [bigSep_map, bigSep_univ_prod]
      refine bigSep_congr fun c _ => ?_
      rw [bigSep_univ_prod, bigSep_univ_eq_bigSepL [false, true] (by decide) (by decide), bigSep_sep']
      rfl)
  iintro ⟨H, -⟩
  ihave H := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(own₀ ρ c ∗ (semVal (barC c) 0 ∗ G (F := F) c)) : sProp 𝕄) from bigSep_mono fun c _ => hcore c) $$ H
  ihave H := apart $$ H
  icases H with ⟨Ho, H⟩
  ihave H := apart $$ H
  icases H with ⟨Hv, HG⟩
  ihave Hu := (show bigSep Finset.univ (G (F := F)) ⊢ BI.own (ER (launchOf barCells scCells tokens)) from Entails.of_eq G_all) $$ HG
  imod (Rounds.fund_launch ER (Rd (blocks m)) cells_disjoint (fun g _ h => h) tokens) $$ [Hv Hu] with ⟨%κ, -, #Hinv, #Hr, Hat, Hop, Htok⟩
  · isplitl [Hv]
    · iapply hv $$ Hv
    · iexact Hu
  imodintro
  iapply (bigSep_with_persistent (S := Finset.univ) (R := recs (blocks m) κ) (Φ := fun c : Dev nD => iprop(own₀ (F := F) ρ c ∗ (atPos ER (barC c) 0 ∅ 0 ∗ ((bigSep Finset.univ fun h : Fin 12 => iprop(openTok ER (sndC c h) ∗ openTok ER (rcvC c h))) ∗ pays (F := F) c)))) (Ψ := ride m 0)
    fun c _ => ride_intro m ρ κ c)
  isplitr
  · unfold recs
    isplitr; · iexact Hinv
    iexact Hr
  iapply both
  isplitl [Ho]; · iexact Ho
  iapply both
  isplitl [Hat]; · iapply hat $$ Hat
  iapply both
  isplitl [Hop]; · iapply hop $$ Hop
  iapply (Entails.of_eq (tokens_eq.trans tokens_around)) $$ Htok

end Cert.KernelIdealProof
-- ==== Proof.Main.lean ====
module

public import proofs.«01_k».proof.Proof.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The whole program -/

variable (m : (ℓ : Loc nD τ sig) → Buf (Elt F) ℓ) (ρ : Dev nD → PrngReg)

/-- The arrays of the call are among the program's. -/
theorem arr_sub : Pipeline.arrRefs (τ := τ) spec0 ⊆ Pipeline.ucRefs τ sig := Pipeline.arrRefs_sub_ucRefs spec0 (by decide)

/-- The program's state before the call gives what the call needs. -/
theorem enter_region (c : Dev nD) : iprop(StableHlo.held (c : Thread nD τ) (Pipeline.ucRefs τ sig) (V1 m c) ∗ ride m 0 c) ⊢ (reg0 m).pre c := by
  show iprop(StableHlo.held (c : Thread nD τ) (Pipeline.ucRefs τ sig) (V1 m c) ∗ kept m c ∗ (∃ r, prngReg c r) ∗ ∃ W, owes (c : Thread nD τ) (O₀ c) W)
    ⊢ iprop(StableHlo.held (c : Thread nD τ) (Pipeline.arrRefs spec0) (V1 m c) ∗ (∃ r, prngReg c r)
      ∗ (StableHlo.held (c : Thread nD τ) (Pipeline.ucRefs τ sig \ Pipeline.arrRefs spec0) (V1 m c) ∗ emp) ∗ kept m c ∗ ∃ W, owes (c : Thread nD τ) (0 + O₀ c) W)
  rw [zero_add, StableHlo.held_sub_split (c : Thread nD τ) arr_sub (V1 m c)]
  iintro ⟨⟨Ha, Hr⟩, HK, Hp, HO⟩
  isplitl [Ha]; · iexact Ha
  isplitl [Hp]; · iexact Hp
  isplitl [Hr]
  · isplitl [Hr]; · iexact Hr
    iempintro
  isplitl [HK] <;> iassumption

/-- What the call leaves gives the program's state after it. -/
theorem leave_region (c : Dev nD) : (reg0 m).post c ⊢ iprop(StableHlo.held (c : Thread nD τ) (Pipeline.ucRefs τ sig) (V2 m (outs m) c) ∗ ride m 1 c) := by
  show iprop(StableHlo.held (c : Thread nD τ) (Pipeline.arrRefs spec0) (V2 m (outs m) c) ∗ (∃ r, prngReg c r)
      ∗ (StableHlo.held (c : Thread nD τ) (Pipeline.ucRefs τ sig \ Pipeline.arrRefs spec0) (V2 m (outs m) c) ∗ emp) ∗ semVal (barC c) 0 ∗ ∃ W, owes (c : Thread nD τ) (0 : CellTallies nD τ sig Unit) W)
    ⊢ iprop(StableHlo.held (c : Thread nD τ) (Pipeline.ucRefs τ sig) (V2 m (outs m) c) ∗ semVal (barC c) 0 ∗ ∃ W, owes (c : Thread nD τ) (0 : CellTallies nD τ sig Unit) W)
  rw [StableHlo.held_sub_split (c : Thread nD τ) arr_sub (V2 m (outs m) c)]
  iintro ⟨Ha, Hp, ⟨Hr, -⟩, Hv, HO⟩
  isplitl [Ha Hr]
  · isplitl [Ha] <;> iassumption
  isplitl [Hv] <;> iassumption

/-- The barrier is the only semaphore that outlives the kernel. -/
theorem sems_unscoped : ∀ sm : SemLoc sig, sm.isScoped .tc = false → sm = .reg bS := by decide

/-- What a device's final memory holds: its arguments as launched, the result as the program computes it, the barrier's counter at zero. -/
def Final (c : Dev nD) (s : MemSt nD τ sig (Elt F)) : Prop :=
  (∀ r ∈ [main_arg0, main_arg1, main_arg2, main_arg3, main_arg4, main_v25], s.mem ((c.tc : Thread nD τ).loc r) = V3 m (outs m) c r) ∧ s.sem (barC c) = 0

/-- At the end the memory holds the result and the arguments as they were. -/
theorem final_read (c : Dev nD) (s : Phys nD τ sig (Elt F)) :
    iprop((StableHlo.held (c : Thread nD τ) (Pipeline.ucRefs τ sig) (V3 m (outs m) c) ∗ semVal (barC c) 0) ∗ SI s) ⊢ (|={Set.univ}=> iprop(⌜Final m c s.mem⌝ ∗ SI s) : sProp 𝕄) := by
  have hsub : ({main_arg0, main_arg1, main_arg2, main_arg3, main_arg4, main_v25} : Finset (Ref sig .tc)).map ⟨Proc.devRef (τ := τ) .tc, Proc.devRef_injective .tc⟩ ⊆ Pipeline.ucRefs τ sig := by decide
  have e : StableHlo.held (c : Thread nD τ) (({main_arg0, main_arg1, main_arg2, main_arg3, main_arg4, main_v25} : Finset (Ref sig .tc)).map ⟨Proc.devRef (τ := τ) .tc, Proc.devRef_injective .tc⟩) (V3 m (outs m) c)
      = (iprop(((c.tc : Thread nD τ).loc main_arg0 ↦{fullShare} V3 m (outs m) c main_arg0) ∗ ((c.tc : Thread nD τ).loc main_arg1 ↦{fullShare} V3 m (outs m) c main_arg1)
        ∗ ((c.tc : Thread nD τ).loc main_arg2 ↦{fullShare} V3 m (outs m) c main_arg2) ∗ ((c.tc : Thread nD τ).loc main_arg3 ↦{fullShare} V3 m (outs m) c main_arg3)
        ∗ ((c.tc : Thread nD τ).loc main_arg4 ↦{fullShare} V3 m (outs m) c main_arg4) ∗ ((c.tc : Thread nD τ).loc main_v25 ↦{fullShare} V3 m (outs m) c main_v25)) : sProp 𝕄) := by
    unfold StableHlo.held
    rw [bigSep_map, bigSep_insert (by decide), bigSep_insert (by decide), bigSep_insert (by decide), bigSep_insert (by decide), bigSep_insert (by decide), bigSep_singleton]
    rfl
  rw [StableHlo.held_sub_split (c : Thread nD τ) hsub (V3 m (outs m) c), e]
  iintro ⟨⟨⟨⟨H0, H1, H2, H3, H4, H5⟩, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    refine ⟨?_, by simpa using hb⟩
    intro r hr
    simp only [List.mem_cons, List.not_mem_nil, or_false] at hr
    rcases hr with rfl | rfl | rfl | rfl | rfl | rfl
    · exact Buf.eq_of_forall_mem_univ h0
    · exact Buf.eq_of_forall_mem_univ h1
    · exact Buf.eq_of_forall_mem_univ h2
    · exact Buf.eq_of_forall_mem_univ h3
    · exact Buf.eq_of_forall_mem_univ h4
    · exact Buf.eq_of_forall_mem_univ h5
  iexact HSI

/-- What the kernel's program leaves in its result. -/
def result (c : Dev nD) : Buf (Elt F) ((c : Thread nD τ).loc main_v25) := V3 m (outs m) c main_v25

set_option backward.isDefEq.respectTransparency.types false in
/-- Every execution of the program from any memory with zero counters ends, with the arguments unchanged, the result
    computed and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v25) = result m c) ∧ r.2.sem = fun _ => 0) := by
  refine Pipeline.θ_run_regions_kit_dev_sems (pcfgs (F := F)) adm (pdats m) () cellOf_inj EP defs₀ Variants.none L lv m ρ main
    (segs m (outs m) Variants.none L lv (ride m) () (pdats m) (reg0 m))
    (fun c Q => by
      rewrite [main_chain c, Pipeline.Seg.run_eq_chain,
        show (segs m (outs m) Variants.none L lv (ride m) () (pdats m) (reg0 m) c).map Pipeline.Seg.prog = [
          StableHlo.seq (hostOps0 c),
          Prog.lift (.customCall (Pipeline.entry 0) ()),
          StableHlo.seq hostOps1 ] from rfl]
      exact .rfl)
    (fun c => by simp only [segs, Pipeline.Seg.pipes_host, Pipeline.Seg.pipes_region, Pipeline.Seg.pipes_nil]; decide)
    O₀ L_of_ne (G (F := F)) ((initOf (Pipeline.cells cfgs cellOf_inj) (Pipeline.launchToks cfgs cellOf_inj), launchOf barCells scCells tokens) : UU) ?_
    (T₀ := fun c => iprop(StableHlo.held (c : Thread nD τ) (Pipeline.ucRefs τ sig) (V0 m c) ∗ ride m 0 c))
    (Tₙ := fun c => iprop(StableHlo.held (c : Thread nD τ) (Pipeline.ucRefs τ sig) (V3 m (outs m) c) ∗ semVal (barC c) 0))
    (hch := fun c => ⟨.rfl, enter_region m c, leave_region m c, ?_⟩)
    (hinit := ?_) (QY := Final m) (hfin := final_read m) (hQ := ?_)
  · iintro Hu
    ihave H := (ownU_pair _ _) $$ Hu
    icases H with ⟨HP, HX⟩
    imodintro
    isplitl [HP]; · iexact HP
    rw [G_all]; iexact HX
  · show iprop(StableHlo.held (c : Thread nD τ) (Pipeline.ucRefs τ sig) (V3 m (outs m) c) ∗ semVal (barC c) 0 ∗ ∃ W, owes (c : Thread nD τ) (0 : CellTallies nD τ sig Unit) W)
      ⊢ iprop((StableHlo.held (c : Thread nD τ) (Pipeline.ucRefs τ sig) (V3 m (outs m) c) ∗ semVal (barC c) 0) ∗ ∃ W, owes (c : Thread nD τ) (0 : CellTallies nD τ sig Unit) W)
    iintro ⟨Hh, Hb, HO⟩
    isplitr [HO]
    · isplitl [Hh] <;> iassumption
    · iexact HO
  · have hb (c : Dev nD) : iprop(unscopedBufs c (fun b => m ((c.tc : Thread nD τ).loc b)) ∗ unscopedSems0 c ∗ owes (c : Thread nD τ) (O₀ c) ∅ ∗ Pipeline.launchCred O₀ c ∗ prngReg c (ρ c) ∗ G (F := F) c)
        ⊢ (iprop(StableHlo.held (c : Thread nD τ) (Pipeline.ucRefs τ sig) (V0 m c) ∗ (unscopedSems0 c ∗ owes (c : Thread nD τ) (O₀ c) ∅ ∗ Pipeline.launchCred O₀ c ∗ prngReg c (ρ c) ∗ G (F := F) c)) : sProp 𝕄) := by
      rw [← Pipeline.unscopedBufs_held (Ix := Unit) (Name := ℕ) (U := UU) (Lvl := ℕ) c (V0 m c)]
    iintro ⟨H, Hla⟩
    ihave H := (show (bigSep Finset.univ fun c : Dev nD => iprop(unscopedBufs c (fun b => m ((c.tc : Thread nD τ).loc b)) ∗ unscopedSems0 c ∗ owes (c : Thread nD τ) (O₀ c) ∅ ∗ Pipeline.launchCred O₀ c ∗ prngReg c (ρ c) ∗ G (F := F) c))
      ⊢ (bigSep Finset.univ fun c : Dev nD => iprop(StableHlo.held (c : Thread nD τ) (Pipeline.ucRefs τ sig) (V0 m c) ∗ (unscopedSems0 c ∗ owes (c : Thread nD τ) (O₀ c) ∅ ∗ Pipeline.launchCred O₀ c ∗ prngReg c (ρ c) ∗ G (F := F) c)) : sProp 𝕄) from bigSep_mono fun c _ => hb c) $$ H
    ihave H := apart $$ H
    icases H with ⟨Hh, Hr⟩
    imod (launch m ρ) $$ [Hr Hla] with HE
    · isplitl [Hr] <;> iassumption
    imodintro
    iapply both
    isplitl [Hh] <;> iassumption
  · intro s h hs
    refine ⟨fun c => ?_, sem_eq_zero hs fun c sm hsm => ?_⟩
    · have hr := (h c).1
      exact ⟨(hr main_arg0 (by simp)).trans (V3_main_arg0 m (outs m) c), (hr main_arg1 (by simp)).trans (V3_main_arg1 m (outs m) c),
        (hr main_arg2 (by simp)).trans (V3_main_arg2 m (outs m) c), (hr main_arg3 (by simp)).trans (V3_main_arg3 m (outs m) c),
        (hr main_arg4 (by simp)).trans (V3_main_arg4 m (outs m) c), hr main_v25 (by simp)⟩
    · obtain rfl := sems_unscoped sm hsm
      exact (h c).2

end Cert.KernelIdealProof
-- ==== Proof.Frames.lean ====
module

public import proofs.«01_k».proof.Defs
public import proofs.«01_k».proof.Proof.Gen.Kernel
public import proofs.«01_k».proof.Proof.Gen.ReferenceIdeal.Run
public import proofs.«01_k».proof.Proof.Main

@[expose] public section

noncomputable section

/-! # The frames -/

namespace Cert.Frames

open Idealize.ShloMosaic Idealize.SL.Sem

/-- A named constant, read at the machine's floats, is the constant printed. -/
@[reducible] def printed : Named Bits := ⟨fun _ _ {_} bits => Scalar.ofBits _ bits⟩

attribute [local instance] printed

set_option maxRecDepth 100000 in
set_option maxHeartbeats 0 in
/-- The two kernels' body tables are one at the machine's floats. -/
theorem bodies_eq : Cert.Kernel.defs₀ (F := Bits) = Cert.KernelIdeal.defs₀ (F := Bits) := congrArg Defs.onTc (funext fun x => by
  rcases x with ⟨l, hl⟩
  cases l with
  | zero =>
    funext p
    exact (rfl : Cert.Kernel.cc0_body (F := Bits) _ _ _ _ _ _ _ _ _ _ _ _ _ _ _ _ _ _ _ _ _ _ _ _ _ _
      = Cert.KernelIdeal.cc0_body (F := Bits) _ _ _ _ _ _ _ _ _ _ _ _ _ _ _ _ _ _ _ _ _ _ _ _ _ _)
  | succ n => exact absurd hl (by omega))

/-- So are the body tables of the whole programs. -/
theorem defs_eq : Cert.Kernel.defs (F := Bits) = Cert.KernelIdeal.defs (F := Bits) :=
  congrArg (Pipeline.defs Cert.KernelIdeal.pcfgs) bodies_eq

set_option maxRecDepth 100000 in
/-- And the programs. -/
theorem main_eq : Cert.Kernel.main (F := Bits) = Cert.KernelIdeal.main (F := Bits) := rfl

/-- The kernel as printed runs, leaves its arguments, and ends with every counter at zero. -/
theorem frame_kernel : Cert.quiescent_Kernel := fun m ρ _ => by
  have h := Cert.KernelIdealProof.run_main (F := Bits) m ρ
  rw [← main_eq, ← defs_eq] at h
  exact (θ_run _ _ _).mono (fun _ h => ⟨fun c => ⟨(h.1 c).1, (h.1 c).2.1, (h.1 c).2.2.1, (h.1 c).2.2.2.1, (h.1 c).2.2.2.2.1⟩, h.2⟩) h

/-- The idealized kernel runs, leaves its arguments, and ends with every counter at zero. -/
theorem frame_ideal : Cert.quiescent_KernelIdeal := fun m ρ _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdealProof.run_main (F := Ideal) m ρ)

/-- The idealized reference runs, leaves its arguments, and has no counter. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The idealized kernel's one rewrite, the mask's constant, is sanctioned. -/
theorem preserves : Cert.preserves_Kernel_KernelIdeal :=
  IdealRules.named_const.statement Cert.KernelIdeal.κ "mask" .f32 0xCE6E6B28#32 ⊥ rfl

end Cert.Frames

end
-- ==== Proof.Math.lean ====
module

public import Idealize.ShloMosaic.Lib.Pointwise

@[expose] public section

noncomputable section

namespace Cert.Att

open Idealize.ShloMosaic

/-! # The arithmetic of one row of attention, over the extended reals -/

/-- Multiplying by a nonnegative real goes through a finite sum of extended reals, infinities and all. -/
theorem sum_mul_real {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih, mul_comm _ (c : EReal), mul_comm (f a), mul_comm (∑ j ∈ s, f j)]
    exact EReal.left_distrib_of_nonneg_of_ne_top (EReal.coe_nonneg.mpr hc) (EReal.coe_ne_top c) _ _

/-- A finite sum of reals, read among the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- One row's result: the values, weighted by `w`, over the weights' sum. -/
def row {n : ℕ} (w v : Fin n → EReal) : EReal := (∑ j, w j * v j) * Ideal.div 1 (∑ j, w j)

/-- A key's weight before it is normalised: the exponential of its score where it is seen, nothing elsewhere. -/
def weight {n : ℕ} (p : Fin n → Prop) [DecidablePred p] (t : Fin n → ℝ) (j : Fin n) : ℝ := if p j then Real.exp (t j) else 0

/-- A key's masked score: its score where it is seen, minus infinity elsewhere. -/
def masked {n : ℕ} (p : Fin n → Prop) [DecidablePred p] (t : Fin n → ℝ) (j : Fin n) : EReal := if p j then (t j : EReal) else ⊥

section
variable {n : ℕ} (p : Fin n → Prop) [DecidablePred p] (t : Fin n → ℝ)

/-- The exponential of a masked score is the weight. -/
theorem exp_masked (j : Fin n) : Ideal.exp (masked p t j) = (weight p t j : EReal) := by
  unfold masked weight
  split
  · exact Ideal.exp_coe _
  · rw [Ideal.exp_bot]; rfl

/-- The exponential of a masked and shifted score is the weight times the shift's exponential. -/
theorem exp_masked_sub (M : ℝ) (j : Fin n) : Ideal.exp (masked p t j - (M : EReal)) = ((weight p t j * Real.exp (-M) : ℝ) : EReal) := by
  unfold masked weight
  split
  · rw [← EReal.coe_sub, Ideal.exp_coe, sub_eq_add_neg, Real.exp_add]
  · rw [EReal.bot_sub, Ideal.exp_bot, zero_mul]; rfl

/-- Weights are not negative. -/
theorem weight_nonneg (j : Fin n) : 0 ≤ weight p t j := by
  unfold weight
  split
  · exact (Real.exp_pos _).le
  · exact le_refl _

/-- The weights of a row that sees some key have a positive sum. -/
theorem sum_weight_pos (j₀ : Fin n) (h₀ : p j₀) : 0 < ∑ j, weight p t j :=
  Finset.sum_pos' (fun j _ => weight_nonneg p t j) ⟨j₀, Finset.mem_univ _, by unfold weight; rw [if_pos h₀]; exact Real.exp_pos _⟩

/-- The greatest masked score of a row that sees some key is a real. -/
theorem max_masked_real (j₀ : Fin n) (h₀ : p j₀) : ∃ M : ℝ, (Finset.univ : Finset (Fin n)).fold max ⊥ (masked p t) = (M : EReal) := by
  have hlt : (Finset.univ : Finset (Fin n)).fold max ⊥ (masked p t) < ⊤ := by
    rw [Finset.fold_max_lt]
    refine ⟨bot_lt_top, fun j _ => ?_⟩
    unfold masked
    split
    · exact EReal.coe_lt_top _
    · exact bot_lt_top
  have hgt : ⊥ < (Finset.univ : Finset (Fin n)).fold max ⊥ (masked p t) := by
    rw [Finset.lt_fold_max]
    refine Or.inr ⟨j₀, Finset.mem_univ _, ?_⟩
    unfold masked
    rw [if_pos h₀]
    exact EReal.bot_lt_coe _
  exact ⟨_, (EReal.coe_toReal hlt.ne hgt.ne').symm⟩

/-- The shifted and normalised weights, applied to the values, give the row's result: the shift cancels, and the division may be done last. -/
theorem softmax_row (j₀ : Fin n) (h₀ : p j₀) (v : Fin n → EReal) :
    ∑ j, v j * Ideal.div (Ideal.exp (masked p t j - (Finset.univ : Finset (Fin n)).fold max ⊥ (masked p t)))
        (∑ j', Ideal.exp (masked p t j' - (Finset.univ : Finset (Fin n)).fold max ⊥ (masked p t)))
      = row (fun j => (weight p t j : EReal)) v := by
  obtain ⟨M, hM⟩ := max_masked_real p t j₀ h₀
  have hS := sum_weight_pos p t j₀ h₀
  have hE := Real.exp_pos (-M)
  rw [hM]
  simp only [exp_masked_sub]
  rw [← coe_sum, ← Finset.sum_mul]
  unfold row
  rw [← coe_sum, Ideal.div_coe hS.ne', one_mul, sum_mul_real _ _ _ (one_div_nonneg.mpr hS.le)]
  refine Finset.sum_congr rfl fun j _ => ?_
  rw [Ideal.div_coe (mul_pos hS hE).ne', ← EReal.coe_mul, mul_comm (v j), mul_comm (weight p t j : EReal) (v j), mul_assoc (v j), ← EReal.coe_mul, mul_comm (v j)]
  congr 2
  field_simp

end

/-- A real scale goes into one factor of every product of reals. -/
theorem sum_scale {ι : Type} (s : Finset ι) (a b : ι → ℝ) (c : ℝ) :
    ∑ d ∈ s, (a d : EReal) * ((b d : EReal) * (c : EReal)) = (((∑ d ∈ s, a d * b d) * c : ℝ) : EReal) := by
  rw [Finset.sum_mul, coe_sum]
  refine Finset.sum_congr rfl fun d _ => ?_
  rw [← EReal.coe_mul, ← EReal.coe_mul, mul_assoc]

/-- A sum of products of reals is a real. -/
theorem sum_prod {ι : Type} (s : Finset ι) (a b : ι → ℝ) :
    ∑ d ∈ s, (a d : EReal) * (b d : EReal) = ((∑ d ∈ s, a d * b d : ℝ) : EReal) := by
  rw [coe_sum]
  exact Finset.sum_congr rfl fun d _ => (EReal.coe_mul _ _).symm

/-! # Block-causal attention with its two projections, written plainly -/

/-- Column `d` of head `H` among all 4096. -/
def col (H : Fin 32) (d : Fin 128) : Fin 4096 := ⟨128 * H.val + d.val, by omega⟩
/-- Head `h` of the eight on device `c`. -/
def head (c : Fin 4) (h : Fin 8) : Fin 32 := ⟨8 * c.val + h.val, by omega⟩

/-- The data: tokens, query projection and keys finite; values and output projection any extended reals; the scores' scale. -/
structure Input where
  x : Fin 1024 → Fin 1024 → ℝ
  wq : Fin 1024 → Fin 4096 → ℝ
  k : Fin 1024 → Fin 32 → Fin 128 → ℝ
  v : Fin 1024 → Fin 32 → Fin 128 → EReal
  wo : Fin 4096 → Fin 1024 → EReal
  σ : ℝ

namespace Input
variable (D : Input)

/-- The query of token `i`, head `H`, column `d`. -/
def query (i : Fin 1024) (H : Fin 32) (d : Fin 128) : ℝ := ∑ e, D.x i e * D.wq e (col H d)
/-- The scaled score of token `i` and key `j` in head `H`. -/
def score (i : Fin 1024) (H : Fin 32) (j : Fin 1024) : ℝ := (∑ d, D.query i H d * D.k j H d) * D.σ
/-- Token `i` sees key `j`: the key's block of 64 is not past the token's. -/
def seen (i j : Fin 1024) : Prop := j.val / 64 ≤ i.val / 64
instance (i : Fin 1024) : DecidablePred (seen i) := fun j => inferInstanceAs (Decidable (j.val / 64 ≤ i.val / 64))
/-- The attention of token `i` in head `H`, column `d`. -/
def ctx (i : Fin 1024) (H : Fin 32) (d : Fin 128) : EReal := row (fun j => (weight (seen i) (D.score i H) j : EReal)) (fun j => D.v j H d)
/-- The heads' share of the result that device `c` computes. -/
def share (c : Fin 4) (i n : Fin 1024) : EReal := ∑ h : Fin 8, ∑ d : Fin 128, D.ctx i (head c h) d * D.wo (col (head c h) d) n
/-- The result. -/
def out (i n : Fin 1024) : EReal := ∑ e : Fin 4096, D.ctx i ⟨e.val / 128, by omega⟩ ⟨e.val % 128, Nat.mod_lt _ (by decide)⟩ * D.wo e n

/-- The result is the sum of the devices' shares. -/
theorem out_eq (i n : Fin 1024) : D.out i n = ∑ c : Fin 4, D.share c i n := by
  unfold out share
  have e1 : ∀ f : Fin 4096 → EReal, ∑ e, f e = ∑ H : Fin 32, ∑ d : Fin 128, f (col H d) := fun f => by
    rw [← Fintype.sum_prod_type', ← Equiv.sum_comp (finProdFinEquiv (m := 32) (n := 128))]
    refine Finset.sum_congr rfl fun a _ => congrArg f (Fin.ext ?_)
    show a.2.val + 128 * a.1.val = 128 * a.1.val + a.2.val
    omega
  have e2 : ∀ f : Fin 32 → EReal, ∑ H, f H = ∑ c : Fin 4, ∑ h : Fin 8, f (head c h) := fun f => by
    rw [← Fintype.sum_prod_type', ← Equiv.sum_comp (finProdFinEquiv (m := 4) (n := 8))]
    refine Finset.sum_congr rfl fun a _ => congrArg f (Fin.ext ?_)
    show a.2.val + 8 * a.1.val = 8 * a.1.val + a.2.val
    omega
  rw [e1, e2]
  refine Finset.sum_congr rfl fun c _ => Finset.sum_congr rfl fun h _ => Finset.sum_congr rfl fun d _ => ?_
  congr 2
  · exact Fin.ext (show (128 * (head c h).val + d.val) / 128 = (head c h).val by omega)
  · exact Fin.ext (show (128 * (head c h).val + d.val) % 128 = d.val by omega)

end Input

end Cert.Att
-- ==== Proof.KVal.lean ====
module

public import proofs.«01_k».proof.Proof.Out
public import proofs.«01_k».proof.Proof.Math
public import Idealize.ShloMosaic.Lib.Pointwise

@[expose] public section

noncomputable section

namespace Cert.KernelIdealProof

open Cert.KernelIdeal Cert.KernelIdeal.Gen

open Idealize.ShloMosaic
open Idealize.ShloMosaic.TcCoe

/-! # One device's values at real arithmetic, element by element -/

/-- Column `d` of head `h`. -/
def hd (h : Fin 8) (d : Fin 128) : Fin 1024 := ⟨128 * h.val + d.val, by omega⟩
/-- A key of the first 512. -/
def lo (j : Fin 512) : Fin 1024 := ⟨j.val, by omega⟩
/-- A key of the last 512. -/
def hi (j : Fin 512) : Fin 1024 := ⟨512 + j.val, by omega⟩
/-- A row of the pair's upper chunk. -/
def rUp (r : Fin 128) : Fin 256 := ⟨r.val, by omega⟩
/-- A row of the pair's lower chunk. -/
def rDn (r : Fin 128) : Fin 256 := ⟨128 + r.val, by omega⟩

/-- A load of a whole buffer reads its contents. -/
theorem whole_eq (m : Memref sig .tc .vmem S1024x1024 .bf16) (w : Vec Ideal S1024x1024 .bf16) : whole m w = w := View.readAt_rep_full _ _ _

/-- Over the reals the rounded query weights are the query weights. -/
theorem wqB_eq (b : Blocks Ideal) : wqB b = b.wq := by
  unfold wqB
  rw [show View.readAt (Elt Ideal) wqM.view (Rect.unit (s := S1024x1024) ![0, 0] S1024x1024.size inb_S1024x1024_S1024x1024_0_0).toLoadRect (wqM.view.rep b.wq) = b.wq from View.readAt_rep_full _ _ _]
  funext y
  pointwise [k0_pay1]

/-- Over the reals the rounded output weights are the output weights. -/
theorem woB_eq (b : Blocks Ideal) : woB b = b.wo := by
  unfold woB
  rw [show View.readAt (Elt Ideal) woM.view (Rect.unit (s := S1024x1024) ![0, 0] S1024x1024.size inb_S1024x1024_S1024x1024_0_0).toLoadRect (woM.view.rep b.wo) = b.wo from View.readAt_rep_full _ _ _]
  funext y
  pointwise [k0_pay2]

/-- The mask's constant is minus infinity. -/
theorem mask_bot : (Named.named κ "mask" 0xCE6E6B28#32 : Ideal .f32) = (⊥ : EReal) := rfl

section Head
variable (q : FVec Ideal S256x1024 .bf16) (k v : Vec Ideal S1024x1024 .bf16) (b1 : FVec Ideal S256x512 .f32) (b2 : FVec Ideal S128x512 .f32) (h : Fin 8)

/-- A head's queries, element by element. -/
theorem qHead_apply (r : Fin 256) (d : Fin 128) : qHead q h (ix2 r d) = q (ix2 r (hd h d)) := by
  pointwise [qHead]
  unfold hd
  rfl

/-- A head's lower keys or values, element by element. -/
theorem loHead_apply (m : Memref sig .tc .vmem S1024x1024 .bf16) (r : Fin 512) (d : Fin 128) : loHead h m k (ix2 r d) = k (ix2 (lo r) (hd h d)) := by
  unfold loHead
  rw [View.readAt_rep]
  pointwise
  unfold hd lo
  simp

/-- A head's upper keys or values, element by element. -/
theorem hiHead_apply (m : Memref sig .tc .vmem S1024x1024 .bf16) (r : Fin 512) (d : Fin 128) : hiHead h m k (ix2 r d) = k (ix2 (hi r) (hd h d)) := by
  unfold hiHead
  rw [View.readAt_rep]
  pointwise
  unfold hd hi
  simp

/-- The weights of the lower keys, element by element. -/
theorem wLo_apply (r : Fin 256) (j : Fin 512) :
    wLo q k b1 h (ix2 r j) = Ideal.exp ((∑ d : Fin 128, q (ix2 r (hd h d)) * k (ix2 (lo j) (hd h d))) + b1 (ix2 r j)) := by
  pointwise [wLo]
  simp only [qHead_apply, loHead_apply]

/-- The weights of the upper keys, element by element. -/
theorem wHi_apply (r : Fin 128) (j : Fin 512) :
    wHi q k b2 h (ix2 r j) = Ideal.exp ((∑ d : Fin 128, q (ix2 (rDn r) (hd h d)) * k (ix2 (hi j) (hd h d))) + b2 (ix2 r j)) := by
  pointwise [wHi]
  simp only [hiHead_apply]
  simp only [qHead_apply]
  rfl

/-- A head's result for the upper chunk, from the weights. -/
theorem headA_apply (r d : Fin 128) :
    headA q k v b1 h (ix2 r d) = Att.row (fun j : Fin 512 => wLo q k b1 h (ix2 (rUp r) j)) (fun j => v (ix2 (lo j) (hd h d))) := by
  pointwise [headA, sLo, cLo, Att.row]
  simp only [loHead_apply]
  rfl

/-- A head's result for the lower chunk, from the weights. -/
theorem headB_apply (r d : Fin 128) :
    headB q k v b1 b2 h (ix2 r d)
      = ((∑ j : Fin 512, wLo q k b1 h (ix2 (rDn r) j) * v (ix2 (lo j) (hd h d))) + ∑ j : Fin 512, wHi q k b2 h (ix2 r j) * v (ix2 (hi j) (hd h d)))
        * Ideal.div 1 ((∑ j : Fin 512, wLo q k b1 h (ix2 (rDn r) j)) + ∑ j : Fin 512, wHi q k b2 h (ix2 r j)) := by
  pointwise [headB, sLo, cLo, sHi, cHi]
  simp only [loHead_apply, hiHead_apply]
  rfl

end Head

/-! ## The masks -/

/-- The quotient by 64, rounded down, of one word as the program spells it. -/
def floorW (w : BitVec 32) : BitVec 32 := floor64 (s := S256x1) (fun _ => w) (ix2 0 0)

/-- The division by 64, element by element. -/
theorem floor64_apply {s : Shape} (a : IVec s 32) (i : s.Idx) : floor64 a i = floorW (a i) := rfl

/-- The kernel's division by 64 is that of the naturals. -/
theorem floorW_nat : ∀ n : Fin 1024, floorW (BitVec.ofNat 32 n.val) = BitVec.ofNat 32 (n.val / 64) := by decide +kernel

/-- The number of a token of the upper chunk. -/
theorem tok_up : ∀ (c : Dev nD) (j : Fin 4) (r : Fin 128), rowTok (place c) (BitVec.ofNat 32 j.val) (ix2 (rUp r) 0) = BitVec.ofNat 32 (128 * (cwF c j).val + r.val) := by
  decide +kernel

/-- The number of a token of the lower chunk. -/
theorem tok_dn : ∀ (c : Dev nD) (j : Fin 4) (r : Fin 128), rowTok (place c) (BitVec.ofNat 32 j.val) (ix2 (rDn r) 0) = BitVec.ofNat 32 (128 * (ccwF c j).val + r.val) := by
  decide +kernel

/-- The block of a lower key. -/
theorem colLo_apply (r : Fin 256) (j : Fin 512) : colLo (ix2 r j) = BitVec.ofNat 32 (j.val / 64) := by
  unfold colLo
  rw [floor64_apply]
  pointwise
  exact floorW_nat ⟨j.val, by omega⟩

/-- The upper keys' blocks begin at eight. -/
theorem hi_block : ∀ j : Fin 512, IntOp.addi (8#32) (BitVec.ofNat 32 (j.val / 64)) = BitVec.ofNat 32 ((512 + j.val) / 64) := by decide +kernel

/-- The block of an upper key. -/
theorem colHi_apply (r : Fin 128) (j : Fin 512) : colHi (ix2 r j) = BitVec.ofNat 32 ((512 + j.val) / 64) := by
  unfold colHi colHi0
  pointwise
  rw [floor64_apply]
  pointwise
  rw [floorW_nat ⟨j.val, by omega⟩]
  exact hi_block j

/-- The mask's addend for token `i` and key `j`: nothing where the key's block is not past the token's, minus infinity elsewhere. -/
def bias (i j : ℕ) : EReal := if j / 64 ≤ i / 64 then 0 else ⊥

/-- The comparison of two block numbers is that of the naturals. -/
theorem sle_nat : ∀ a b : Fin 16, IntOp.cmpi CmpIPredicate.sle (BitVec.ofNat 32 a.val) (BitVec.ofNat 32 b.val) = BitVec.ofBool (decide (a.val ≤ b.val)) := by decide +kernel

/-- The bias of a token and a key: zero where the key is seen, minus infinity elsewhere. -/
theorem select_bias (i j : ℕ) (hi : i < 1024) (hj : j < 1024) :
    Scalar.select (IntOp.cmpi CmpIPredicate.sle (BitVec.ofNat 32 (j / 64)) (BitVec.ofNat 32 (i / 64))) (0 : EReal) (⊥ : EReal) = bias i j := by
  rw [sle_nat ⟨j / 64, by omega⟩ ⟨i / 64, by omega⟩]
  unfold bias
  by_cases h : j / 64 ≤ i / 64
  · rw [if_pos h]; simp [h, Scalar.select]
  · rw [if_neg h]; simp [h, Scalar.select]

/-- A upper chunk is one of the first four. -/
theorem cw_lt (c : Dev nD) (j : Fin 4) : (cwF c j).val < 4 := Nat.mod_lt _ (by decide)

/-- The bias of the upper chunk's tokens and the lower keys. -/
theorem bias1_up (c : Dev nD) (j : Fin 4) (r : Fin 128) (i : Fin 512) :
    bias1 (F := Ideal) (place c) (BitVec.ofNat 32 j.val) (ix2 (rUp r) i) = bias (128 * (cwF c j).val + r.val) i.val := by
  have := cw_lt c j
  pointwise [bias1]
  rw [floor64_apply, tok_up, colLo_apply, floorW_nat ⟨128 * (cwF c j).val + r.val, by omega⟩]
  exact select_bias _ _ (by omega) (by omega)

/-- The bias of the lower chunk's tokens and the lower keys. -/
theorem bias1_dn (c : Dev nD) (j : Fin 4) (r : Fin 128) (i : Fin 512) :
    bias1 (F := Ideal) (place c) (BitVec.ofNat 32 j.val) (ix2 (rDn r) i) = bias (128 * (ccwF c j).val + r.val) i.val := by
  have := (ccwF c j).isLt
  pointwise [bias1]
  rw [floor64_apply, tok_dn, colLo_apply, floorW_nat ⟨128 * (ccwF c j).val + r.val, by omega⟩]
  exact select_bias _ _ (by omega) (by omega)

/-- The bias of the lower chunk's tokens and the upper keys. -/
theorem bias2_dn (c : Dev nD) (j : Fin 4) (r : Fin 128) (i : Fin 512) :
    bias2 (F := Ideal) (place c) (BitVec.ofNat 32 j.val) (ix2 r i) = bias (128 * (ccwF c j).val + r.val) (512 + i.val) := by
  have := (ccwF c j).isLt
  pointwise [bias2]
  rw [floor64_apply, show rowTok (place c) (BitVec.ofNat 32 j.val) (ix2 ⟨128 + r.val, by omega⟩ 0) = BitVec.ofNat 32 (128 * (ccwF c j).val + r.val) from tok_dn c j r,
    colHi_apply, floorW_nat ⟨128 * (ccwF c j).val + r.val, by omega⟩]
  exact select_bias _ _ (by omega) (by omega)

/-! ## The loads -/

/-- The upper chunk's tokens, element by element. -/
theorem xTop_apply (c : Dev nD) (j : Fin 4) (x : Vec Ideal S1024x1024 .f32) (r : Fin 128) (e : Fin 1024) :
    xTop c j x (ix2 r e) = x (ix2 ⟨128 * (cwF c j).val + r.val, by have := cw_lt c j; omega⟩ e) := by
  unfold xTop
  rw [View.readAt_rep]
  pointwise [k0_pay7]
  simp only [k0_off1_eq]
  exact congrArg x (by unfold cwF; congr 1 <;> exact Fin.ext (by simp))

/-- The lower chunk's tokens, element by element. -/
theorem xBot_apply (c : Dev nD) (j : Fin 4) (x : Vec Ideal S1024x1024 .f32) (r : Fin 128) (e : Fin 1024) :
    xBot c j x (ix2 r e) = x (ix2 ⟨128 * (ccwF c j).val + r.val, by have := (ccwF c j).isLt; omega⟩ e) := by
  unfold xBot
  rw [View.readAt_rep]
  pointwise [k0_pay8]
  simp only [off2_ccw]
  exact congrArg x (by congr 1 <;> exact Fin.ext (by simp))

/-- What a memory written in pieces reads back, at real arithmetic. -/
theorem readCov_full {s : Shape} {e : EltTy} (m : Memref sig .tc .vmem s e) (L : List (View.Piece (Elt Ideal) s e)) {off : Fin s.rank → ℕ}
    (inb : ∀ a, off a + s.size a ≤ s.size a) : m.view.readCov L (Rect.unit off s.size inb).toLoadRect = View.canon L := by
  rw [View.readCov_eq_canon']
  funext y
  exact congrArg (View.canon L) (funext fun a => Fin.ext (by
    show off a + 1 * (y a).val = (y a).val
    have := inb a; omega))

/-- Under the newest piece the contents are its payload. -/
theorem canon_hit {s : Shape} {e : EltTy} {off size : Fin s.rank → ℕ} (inb : ∀ a, off a + size a ≤ s.size a)
    (w : (Rect.unit off size inb).shape.Idx → Elt Ideal e) (L : List (View.Piece (Elt Ideal) s e)) (y : s.Idx) (x : (Rect.unit off size inb).shape.Idx)
    (h : ∀ a, (y a).val = off a + (x a).val) : View.canon (⟨Rect.unit off size inb, w⟩ :: L) y = w x := by
  have he : (Rect.unit off size inb).emb x = y := funext fun a => Fin.ext (by
    show off a + 1 * (x a).val = (y a).val
    have := h a; omega)
  rw [← he]
  exact View.canon_cons_emb _ w L x

/-- Off the newest piece they are the older pieces'. -/
theorem canon_miss {s : Shape} {e : EltTy} {off size : Fin s.rank → ℕ} (inb : ∀ a, off a + size a ≤ s.size a)
    (w : (Rect.unit off size inb).shape.Idx → Elt Ideal e) (L : List (View.Piece (Elt Ideal) s e)) (y : s.Idx) (a : Fin s.rank)
    (h : (y a).val < off a ∨ off a + size a ≤ (y a).val) : View.canon (⟨Rect.unit off size inb, w⟩ :: L) y = View.canon L y := by
  refine View.canon_cons_of_not_mem _ L fun hm => ?_
  obtain ⟨i, hi, he⟩ := (LoadRect.mem_set _).mp hm a
  have hi' : i < size a := hi
  have he' : (y a).val = off a + 1 * i := he
  omega

/-- The upper half of the pair's tokens is the upper chunk. -/
theorem xp_up (c : Dev nD) (j : Fin 4) (x : Vec Ideal S1024x1024 .f32) (r : Fin 128) (e : Fin 1024) :
    View.canon (xpP c j x) (ix2 (rUp r) e) = x (ix2 ⟨128 * (cwF c j).val + r.val, by have := cw_lt c j; omega⟩ e) := by
  unfold xpP
  rw [canon_miss _ _ _ _ 0 (.inl (show r.val < 128 by omega)), canon_hit _ _ _ _ (ix2 r e) (fun a => by match a with | ⟨0, _⟩ => exact (Nat.zero_add _).symm | ⟨1, _⟩ => exact (Nat.zero_add _).symm)]
  exact xTop_apply c j x r e

/-- The lower half of the pair's tokens is the lower chunk. -/
theorem xp_dn (c : Dev nD) (j : Fin 4) (x : Vec Ideal S1024x1024 .f32) (r : Fin 128) (e : Fin 1024) :
    View.canon (xpP c j x) (ix2 (rDn r) e) = x (ix2 ⟨128 * (ccwF c j).val + r.val, by have := (ccwF c j).isLt; omega⟩ e) := by
  unfold xpP
  rw [canon_hit _ _ _ _ (ix2 r e) (fun a => by match a with | ⟨0, _⟩ => rfl | ⟨1, _⟩ => exact (Nat.zero_add _).symm)]
  exact xBot_apply c j x r e

section Ctx
variable (q : FVec Ideal S256x1024 .bf16) (k v : Vec Ideal S1024x1024 .bf16) (b1 : FVec Ideal S256x512 .f32) (b2 : FVec Ideal S128x512 .f32) (h h' : Fin 8)
  (L : List (View.Piece (Elt Ideal) S256x1024 .bf16))

/-- After a head's two stores the upper half of its columns holds the upper chunk's result. -/
theorem headP_up (r d : Fin 128) : View.canon (headP q k v b1 b2 h ++ L) (ix2 (rUp r) (hd h d)) = headA q k v b1 h (ix2 r d) := by
  show View.canon (_ :: _ :: L) _ = _
  rw [canon_miss _ _ _ _ 0 (.inl (show r.val < 128 by omega)), canon_hit _ _ _ _ (ix2 r d) (fun a => by match a with | ⟨0, _⟩ => exact (Nat.zero_add _).symm | ⟨1, _⟩ => rfl)]

/-- After a head's two stores the lower half of its columns holds the lower chunk's result. -/
theorem headP_dn (r d : Fin 128) : View.canon (headP q k v b1 b2 h ++ L) (ix2 (rDn r) (hd h d)) = headB q k v b1 b2 h (ix2 r d) := by
  show View.canon (_ :: _ :: L) _ = _
  rw [canon_hit _ _ _ _ (ix2 r d) (fun a => by match a with | ⟨0, _⟩ => rfl | ⟨1, _⟩ => rfl)]

/-- A head's stores leave the other heads' columns alone. -/
theorem headP_miss (hne : h' ≠ h) (r : Fin 256) (d : Fin 128) : View.canon (headP q k v b1 b2 h' ++ L) (ix2 r (hd h d)) = View.canon L (ix2 r (hd h d)) := by
  show View.canon (_ :: _ :: L) _ = _
  have hv : h'.val ≠ h.val := fun e => hne (Fin.ext e)
  have hc : (128 * h.val + d.val < 128 * h'.val) ∨ (128 * h'.val + 128 ≤ 128 * h.val + d.val) := by omega
  rw [canon_miss _ _ _ _ 1 hc, canon_miss _ _ _ _ 1 hc]

/-- After the stores of several heads the upper half of each one's columns holds its result. -/
theorem heads_up (r d : Fin 128) : ∀ hs : List (Fin 8), h ∈ hs → View.canon (hs.flatMap (headP q k v b1 b2)) (ix2 (rUp r) (hd h d)) = headA q k v b1 h (ix2 r d)
  | [], hm => absurd hm List.not_mem_nil
  | g :: hs, hm => by
    rw [List.flatMap_cons]
    by_cases hg : g = h
    · subst hg; exact headP_up ..
    · rw [headP_miss q k v b1 b2 h g _ hg]
      exact heads_up r d hs ((List.mem_cons.mp hm).resolve_left (Ne.symm hg))

/-- After the stores of several heads the lower half of each one's columns holds its result. -/
theorem heads_dn (r d : Fin 128) : ∀ hs : List (Fin 8), h ∈ hs → View.canon (hs.flatMap (headP q k v b1 b2)) (ix2 (rDn r) (hd h d)) = headB q k v b1 b2 h (ix2 r d)
  | [], hm => absurd hm List.not_mem_nil
  | g :: hs, hm => by
    rw [List.flatMap_cons]
    by_cases hg : g = h
    · subst hg; exact headP_dn ..
    · rw [headP_miss q k v b1 b2 h g _ hg]
      exact heads_dn r d hs ((List.mem_cons.mp hm).resolve_left (Ne.symm hg))

/-- The stores of the heads' results, head by head. -/
theorem ctxP_eq : ctxP q k v b1 b2 = [7, 6, 5, 4, 3, 2, 1, 0].flatMap (headP q k v b1 b2) := by
  simp only [List.flatMap_cons, List.flatMap_nil, List.append_nil]; rfl

/-- Every head is stored. -/
theorem mem_heads : ∀ h : Fin 8, h ∈ ([7, 6, 5, 4, 3, 2, 1, 0] : List (Fin 8)) := by decide

/-- The heads' results for the upper chunk. -/
theorem ctx_up (r d : Fin 128) : View.canon (ctxP q k v b1 b2) (ix2 (rUp r) (hd h d)) = headA q k v b1 h (ix2 r d) := by
  rw [ctxP_eq]; exact heads_up q k v b1 b2 h r d _ (mem_heads h)
/-- The heads' results for the lower chunk. -/
theorem ctx_dn (r d : Fin 128) : View.canon (ctxP q k v b1 b2) (ix2 (rDn r) (hd h d)) = headB q k v b1 b2 h (ix2 r d) := by
  rw [ctxP_eq]; exact heads_dn q k v b1 b2 h r d _ (mem_heads h)

end Ctx

/-! ## One pair's product -/

/-- A sum over the 1024 columns, head by head. -/
theorem sum_heads (f : Fin 1024 → EReal) : ∑ e : Fin 1024, f e = ∑ h : Fin 8, ∑ d : Fin 128, f (hd h d) := by
  rw [← Fintype.sum_prod_type', ← Equiv.sum_comp (finProdFinEquiv (m := 8) (n := 128))]
  refine Finset.sum_congr rfl fun a _ => congrArg f (Fin.ext ?_)
  show a.2.val + 128 * a.1.val = 128 * a.1.val + a.2.val
  omega

/-- The queries of the upper chunk, as a sum. -/
theorem qPair_up (c : Dev nD) (j : Fin 4) (x wq : Vec Ideal S1024x1024 .f32) (r : Fin 128) (n : Fin 1024) :
    qPair c j x wq (ix2 (rUp r) n) = ∑ e : Fin 1024, x (ix2 ⟨128 * (cwF c j).val + r.val, by have := cw_lt c j; omega⟩ e) * wq (ix2 e n) := by
  unfold qPair
  rw [whole_eq, readCov_full xpM]
  pointwise
  simp only [xp_up]

/-- The queries of the lower chunk, as a sum. -/
theorem qPair_dn (c : Dev nD) (j : Fin 4) (x wq : Vec Ideal S1024x1024 .f32) (r : Fin 128) (n : Fin 1024) :
    qPair c j x wq (ix2 (rDn r) n) = ∑ e : Fin 1024, x (ix2 ⟨128 * (ccwF c j).val + r.val, by have := (ccwF c j).isLt; omega⟩ e) * wq (ix2 e n) := by
  unfold qPair
  rw [whole_eq, readCov_full xpM]
  pointwise
  simp only [xp_dn]

/-- The output product for the upper chunk, as a sum over heads and columns. -/
theorem oPair_up (c : Dev nD) (j : Fin 4) (x : Vec Ideal S1024x1024 .f32) (wq k v wo : Vec Ideal S1024x1024 .bf16) (r : Fin 128) (n : Fin 1024) :
    oPair c j x wq k v wo (ix2 (rUp r) n)
      = ∑ h : Fin 8, ∑ d : Fin 128, headA (qPair c j x wq) k v (bias1 (place c) (BitVec.ofNat 32 j.val)) h (ix2 r d) * wo (ix2 (hd h d) n) := by
  unfold oPair
  rw [whole_eq, readCov_full ctxM]
  pointwise
  rw [sum_heads]
  simp only [ctx_up]

/-- The output product for the lower chunk, as a sum over heads and columns. -/
theorem oPair_dn (c : Dev nD) (j : Fin 4) (x : Vec Ideal S1024x1024 .f32) (wq k v wo : Vec Ideal S1024x1024 .bf16) (r : Fin 128) (n : Fin 1024) :
    oPair c j x wq k v wo (ix2 (rDn r) n)
      = ∑ h : Fin 8, ∑ d : Fin 128, headB (qPair c j x wq) k v (bias1 (place c) (BitVec.ofNat 32 j.val)) (bias2 (place c) (BitVec.ofNat 32 j.val)) h (ix2 r d)
          * wo (ix2 (hd h d) n) := by
  unfold oPair
  rw [whole_eq, readCov_full ctxM]
  pointwise
  rw [sum_heads]
  simp only [ctx_dn]

end Cert.KernelIdealProof
-- ==== Proof.KSum.lean ====
module

public import proofs.«01_k».proof.Proof.KVal

@[expose] public section

noncomputable section

namespace Cert.KernelIdealProof

open Cert.KernelIdeal Cert.KernelIdeal.Gen

open Idealize.ShloMosaic
open Idealize.ShloMosaic.TcCoe

/-! # The kernel's result is the sum of the devices' shares -/

/-- A device's blocks hold its part of the data: its heads' columns of the query projection, its heads' scaled keys and values, its heads' rows of the output projection. -/
structure Holds (D : Att.Input) (c : Dev nD) (b : Blocks Ideal) : Prop where
  x : ∀ i e, b.x (ix2 i e) = (D.x i e : EReal)
  wq : ∀ e h d, b.wq (ix2 e (hd h d)) = (D.wq e (Att.col (Att.head c h) d) : EReal)
  k : ∀ j h d, b.k (ix2 j (hd h d)) = (D.k j (Att.head c h) d : EReal) * (D.σ : EReal)
  v : ∀ j h d, b.v (ix2 j (hd h d)) = D.v j (Att.head c h) d
  wo : ∀ h d n, b.wo (ix2 (hd h d) n) = D.wo (Att.col (Att.head c h) d) n

/-- A sum over the 1024 keys, half by half. -/
theorem sum_halves (f : Fin 1024 → EReal) : ∑ j : Fin 1024, f j = (∑ j : Fin 512, f (lo j)) + ∑ j : Fin 512, f (hi j) :=
  Fin.sum_univ_add (a := 512) (b := 512) f

section
variable {D : Att.Input} {c : Dev nD} {b : Blocks Ideal} (H : Holds D c b)
include H

/-- The exponential of the kernel's biased score is the weight: that of the score where the key is seen, zero elsewhere. -/
theorem exp_bias (i j : Fin 1024) (h : Fin 8) (q : Fin 128 → EReal) (hq : ∀ d, q d = (D.query i (Att.head c h) d : EReal)) :
    Ideal.exp ((∑ d : Fin 128, q d * b.k (ix2 j (hd h d))) + bias i.val j.val) = (Att.weight (Att.Input.seen i) (D.score i (Att.head c h)) j : EReal) := by
  have hs : ∑ d : Fin 128, q d * b.k (ix2 j (hd h d)) = (D.score i (Att.head c h) j : EReal) := by
    simp only [hq, H.k]
    exact Att.sum_scale _ _ _ _
  rw [hs, ← Att.exp_masked]
  congr 1
  unfold bias Att.masked
  by_cases h : j.val / 64 ≤ i.val / 64
  · rw [if_pos h, if_pos (show Att.Input.seen i j from h), add_zero]
  · rw [if_neg h, if_neg (show ¬ Att.Input.seen i j from h), EReal.add_bot]

/-- The token of row `r` of the upper chunk of round `j`. -/
def tokU (c : Dev nD) (j : Fin 4) (r : Fin 128) : Fin 1024 := ⟨128 * (cwF c j).val + r.val, by have := cw_lt c j; omega⟩
/-- The token of row `r` of the lower chunk of round `j`. -/
def tokD (c : Dev nD) (j : Fin 4) (r : Fin 128) : Fin 1024 := ⟨128 * (ccwF c j).val + r.val, by have := (ccwF c j).isLt; omega⟩

/-- The queries of the upper chunk's tokens. -/
theorem q_up (j : Fin 4) (r : Fin 128) (h : Fin 8) (d : Fin 128) : qPair c j b.x b.wq (ix2 (rUp r) (hd h d)) = (D.query (tokU c j r) (Att.head c h) d : EReal) := by
  rw [qPair_up]
  simp only [H.x, H.wq]
  exact Att.sum_prod _ _ _
/-- The queries of the lower chunk's tokens. -/
theorem q_dn (j : Fin 4) (r : Fin 128) (h : Fin 8) (d : Fin 128) : qPair c j b.x b.wq (ix2 (rDn r) (hd h d)) = (D.query (tokD c j r) (Att.head c h) d : EReal) := by
  rw [qPair_dn]
  simp only [H.x, H.wq]
  exact Att.sum_prod _ _ _

/-- A head's result for the upper chunk is the attention of its tokens. -/
theorem headA_val (j : Fin 4) (r d : Fin 128) (h : Fin 8) :
    headA (qPair c j b.x b.wq) b.k b.v (bias1 (place c) (BitVec.ofNat 32 j.val)) h (ix2 r d) = D.ctx (tokU c j r) (Att.head c h) d := by
  have hc := cw_lt c j
  have hw : ∀ i : Fin 512, wLo (qPair c j b.x b.wq) b.k (bias1 (place c) (BitVec.ofNat 32 j.val)) h (ix2 (rUp r) i)
      = (Att.weight (Att.Input.seen (tokU c j r)) (D.score (tokU c j r) (Att.head c h)) (lo i) : EReal) := fun i => by
    rw [wLo_apply, bias1_up]
    exact exp_bias H (tokU c j r) (lo i) h _ (q_up H j r h)
  have h0 : ∀ i : Fin 512, Att.weight (Att.Input.seen (tokU c j r)) (D.score (tokU c j r) (Att.head c h)) (hi i) = 0 := fun i =>
    if_neg (show ¬ (512 + i.val) / 64 ≤ (128 * (cwF c j).val + r.val) / 64 by omega)
  rw [headA_apply]
  unfold Att.Input.ctx Att.row
  simp only [hw, H.v]
  rw [sum_halves, sum_halves]
  simp only [h0, EReal.coe_zero, zero_mul, Finset.sum_const_zero, add_zero]

/-- A head's result for the lower chunk is the attention of its tokens. -/
theorem headB_val (j : Fin 4) (r d : Fin 128) (h : Fin 8) :
    headB (qPair c j b.x b.wq) b.k b.v (bias1 (place c) (BitVec.ofNat 32 j.val)) (bias2 (place c) (BitVec.ofNat 32 j.val)) h (ix2 r d)
      = D.ctx (tokD c j r) (Att.head c h) d := by
  have hw : ∀ i : Fin 512, wLo (qPair c j b.x b.wq) b.k (bias1 (place c) (BitVec.ofNat 32 j.val)) h (ix2 (rDn r) i)
      = (Att.weight (Att.Input.seen (tokD c j r)) (D.score (tokD c j r) (Att.head c h)) (lo i) : EReal) := fun i => by
    rw [wLo_apply, bias1_dn]
    exact exp_bias H (tokD c j r) (lo i) h _ (q_dn H j r h)
  have hw' : ∀ i : Fin 512, wHi (qPair c j b.x b.wq) b.k (bias2 (place c) (BitVec.ofNat 32 j.val)) h (ix2 r i)
      = (Att.weight (Att.Input.seen (tokD c j r)) (D.score (tokD c j r) (Att.head c h)) (hi i) : EReal) := fun i => by
    rw [wHi_apply, bias2_dn]
    exact exp_bias H (tokD c j r) (hi i) h _ (q_dn H j r h)
  rw [headB_apply]
  unfold Att.Input.ctx Att.row
  simp only [hw, hw', H.v]
  rw [sum_halves, sum_halves]

end

variable {D : Att.Input} {I : Dev nD → Blocks Ideal} (H : ∀ c, Holds D c (I c))
include H

/-- The device's partial result for the upper chunk is its share. -/
theorem PT_val (c : Dev nD) (j : Fin 4) (r : Fin 128) (n : Fin 1024) : PT I c j (ix2 r n) = D.share c (tokU c j r) n := by
  unfold PT
  rw [wqB_eq, woB_eq]
  pointwise [oTop]
  refine (oPair_up c j _ _ _ _ _ r n).trans ?_
  unfold Att.Input.share
  simp only [headA_val (H c), (H c).wo]

/-- The device's partial result for the lower chunk is its share. -/
theorem PB_val (c : Dev nD) (j : Fin 4) (r : Fin 128) (n : Fin 1024) : PB I c j (ix2 r n) = D.share c (tokD c j r) n := by
  unfold PB
  rw [wqB_eq, woB_eq]
  pointwise [oBot]
  refine (oPair_dn c j _ _ _ _ _ r n).trans ?_
  unfold Att.Input.share
  simp only [headB_val (H c), (H c).wo]

omit H in
/-- The sum along the ring to the left is the sum over the devices. -/
theorem ring_lf : ∀ (f : Dev nD → EReal) (e : Dev nD), f e + (f (lf e) + (f (lf (lf e)) + f (lf (lf (lf e))))) = f 0 + f 1 + f 2 + f 3 := by
  have h0 : lf 0 = 3 := rfl
  have h1 : lf 1 = 0 := rfl
  have h2 : lf 2 = 1 := rfl
  have h3 : lf 3 = 2 := rfl
  intro f e
  match e with
  | 0 => rw [h0, h3, h2]; ac_rfl
  | 1 => rw [h1, h0, h3]; ac_rfl
  | 2 => rw [h2, h1, h0]; ac_rfl
  | 3 => rw [h3, h2, h1]; ac_rfl
omit H in
/-- The sum along the ring to the right is the sum over the devices. -/
theorem ring_rt : ∀ (f : Dev nD → EReal) (e : Dev nD), f e + (f (rt e) + (f (rt (rt e)) + f (rt (rt (rt e))))) = f 0 + f 1 + f 2 + f 3 := by
  have h0 : rt 0 = 1 := rfl
  have h1 : rt 1 = 2 := rfl
  have h2 : rt 2 = 3 := rfl
  have h3 : rt 3 = 0 := rfl
  intro f e
  match e with
  | 0 => rw [h0, h1, h2]; ac_rfl
  | 1 => rw [h1, h2, h3]; ac_rfl
  | 2 => rw [h2, h3, h0]; ac_rfl
  | 3 => rw [h3, h0, h1]; ac_rfl

/-- Every chunk of the result is the sum of the devices' shares of it. -/
theorem chunkV_val (m : Fin 8) (r : Fin 128) (n : Fin 1024) : chunkV I m (ix2 r n) = D.out ⟨128 * m.val + r.val, by omega⟩ n := by
  rw [D.out_eq, Fin.sum_univ_four]
  unfold chunkV
  split
  · rename_i hm
    pointwise [wide, A]
    simp only [PT_val H]
    have e0 : tokU (⟨(m.val + 3) % 4, Nat.mod_lt _ (by decide)⟩ : Dev nD) 3 r = ⟨128 * m.val + r.val, by omega⟩ := Fin.ext (by show 128 * (((m.val + 3) % 4 + 4 - 3) % 4) + r.val = 128 * m.val + r.val; omega)
    have e1 : tokU (lf (⟨(m.val + 3) % 4, Nat.mod_lt _ (by decide)⟩ : Dev nD)) 2 r = ⟨128 * m.val + r.val, by omega⟩ := Fin.ext (by show 128 * ((((m.val + 3) % 4 + 3) % 4 + 4 - 2) % 4) + r.val = 128 * m.val + r.val; omega)
    have e2 : tokU (lf (lf (⟨(m.val + 3) % 4, Nat.mod_lt _ (by decide)⟩ : Dev nD))) 1 r = ⟨128 * m.val + r.val, by omega⟩ := Fin.ext (by show 128 * (((((m.val + 3) % 4 + 3) % 4 + 3) % 4 + 4 - 1) % 4) + r.val = 128 * m.val + r.val; omega)
    have e3 : tokU (lf (lf (lf (⟨(m.val + 3) % 4, Nat.mod_lt _ (by decide)⟩ : Dev nD)))) 0 r = ⟨128 * m.val + r.val, by omega⟩ := Fin.ext (by show 128 * ((((((m.val + 3) % 4 + 3) % 4 + 3) % 4 + 3) % 4 + 4 - 0) % 4) + r.val = 128 * m.val + r.val; omega)
    rw [e0, e1, e2, e3]
    exact ring_lf (fun c => D.share c ⟨128 * m.val + r.val, by omega⟩ n) _
  · rename_i hm
    pointwise [wide, B]
    simp only [PB_val H]
    have e0 : tokD (⟨(m.val + 1) % 4, Nat.mod_lt _ (by decide)⟩ : Dev nD) 3 r = ⟨128 * m.val + r.val, by omega⟩ := Fin.ext (by show 128 * (((m.val + 1) % 4 + 3) % 4 + 4) + r.val = 128 * m.val + r.val; omega)
    have e1 : tokD (rt (⟨(m.val + 1) % 4, Nat.mod_lt _ (by decide)⟩ : Dev nD)) 2 r = ⟨128 * m.val + r.val, by omega⟩ := Fin.ext (by show 128 * ((((m.val + 1) % 4 + 1) % 4 + 2) % 4 + 4) + r.val = 128 * m.val + r.val; omega)
    have e2 : tokD (rt (rt (⟨(m.val + 1) % 4, Nat.mod_lt _ (by decide)⟩ : Dev nD))) 1 r = ⟨128 * m.val + r.val, by omega⟩ := Fin.ext (by show 128 * (((((m.val + 1) % 4 + 1) % 4 + 1) % 4 + 1) % 4 + 4) + r.val = 128 * m.val + r.val; omega)
    have e3 : tokD (rt (rt (rt (⟨(m.val + 1) % 4, Nat.mod_lt _ (by decide)⟩ : Dev nD)))) 0 r = ⟨128 * m.val + r.val, by omega⟩ := Fin.ext (by show 128 * ((((((m.val + 1) % 4 + 1) % 4 + 1) % 4 + 1) % 4 + 0) % 4 + 4) + r.val = 128 * m.val + r.val; omega)
    rw [e0, e1, e2, e3]
    exact ring_rt (fun c => D.share c ⟨128 * m.val + r.val, by omega⟩ n) _

/-- The kernel's result is the attention's, element by element. -/
theorem outV_val (i n : Fin 1024) : outV I (ix2 i n) = D.out i n := by
  have e : inChunk (ix2 i n) = ix2 ⟨i.val % 128, Nat.mod_lt _ (by decide)⟩ n := funext fun a => by match a with | ⟨0, _⟩ => rfl | ⟨1, _⟩ => rfl
  unfold outV
  rw [e, chunkV_val H]
  congr 1
  exact Fin.ext (show 128 * (i.val / 128) + i.val % 128 = i.val by omega)

end Cert.KernelIdealProof
-- ==== Proof.Glue.lean ====
module

public import proofs.«01_k».proof.Proof.Main
public import proofs.«01_k».proof.Proof.KSum
public import Idealize.ShloMosaic.Lib.DynamicIndex
public import Idealize.ShloMosaic.Lib.StableHlo.RunClose
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.ShloMosaic.Pipeline (Dat Window)

/-! # What the program's operations around the kernel give it and make of its result -/

/-- The device's first head, as the program computes it: eight times its number, wrapped if it were negative. -/
def firstHead (c : Dev nD) : IVec S_ 32 :=
  have p : IVec S_ 32 := muli (id (Host.remui (Host.divui (constantI S_ 32 (Dev.word c)) (constantI S_ 32 1#32)) (constantI S_ 32 4#32))) (constantI S_ 32 8#32)
  select (cmpi .slt p (constantI S_ 32 0#32)) (addi p (constantI S_ 32 32#32)) p
/-- The device's heads cut from all of them. -/
def heads (c : Dev nD) (y : FVec Ideal S1x1024x32x128 .f32) : FVec Ideal S1024x8x128 .f32 :=
  Host.dynamicSlice S1024x8x128 (shapeCast S1024x32x128 y shapeCasts_S1x1024x32x128_S1024x32x128)
    (fun k => ((![constantI S_ 32 0#32, firstHead c, constantI S_ 32 0#32] : Fin 3 → IVec S_ 32) k (Shape.Idx.first h_S_)).toInt) sliceFits_S1024x32x128_S1024x8x128

/-- The device's first head is eight times its number. -/
theorem firstHead_apply (c : Dev nD) : (firstHead c (Shape.Idx.first h_S_)).toInt = (8 * c.val : ℕ) := by
  revert c; decide +kernel

/-- The device's heads lie within all heads. -/
theorem slices_at (c : Dev nD) : S1024x32x128.Slices (![0, 8 * c.val, 0] : Fin 3 → ℕ) S1024x8x128 := by
  revert c; decide +kernel

/-- The device's heads, element by element. -/
theorem heads_apply (c : Dev nD) (y : FVec Ideal S1x1024x32x128 .f32) (j : Fin 1024) (h : Fin 8) (d : Fin 128) :
    heads c y (ix3 j h d) = y (ix4 0 j (Att.head c h) d) := by
  unfold heads
  rw [Host.dynamicSlice_eq_extractStridedSlice _ _ _ (![0, 8 * c.val, 0] : Fin 3 → ℕ) _ (slices_at c) (fun a => by
    match a with
    | ⟨0, _⟩ => rfl
    | ⟨1, _⟩ => exact firstHead_apply c
    | ⟨2, _⟩ => rfl)]
  pointwise
  rfl

variable (m : (ℓ : Loc nD τ sig) → Buf (Elt Ideal) ℓ) (c : Dev nD)

set_option maxHeartbeats 1000000 in
set_option maxRecDepth 16384 in
/-- The call's tokens are the program's, without the first axis. -/
theorem V1_x : V1 m c main_v5 = shapeCast S1024x1024 (m ((c.tc : Thread nD τ).loc main_arg0)) shapeCasts_S1x1024x1024_S1024x1024 := by
  unfold V1 hostOps0
  after_results_simp_entrywise
  rfl
set_option maxHeartbeats 1000000 in
set_option maxRecDepth 16384 in
/-- The call's keys are the device's heads of the program's, scaled and side by side. -/
theorem V1_k : V1 m c main_v21 = shapeCast S1024x1024 (truncf .bf16 (mulf (heads c (m ((c.tc : Thread nD τ).loc main_arg2)))
    (broadcastInDim S1024x8x128 ![] bcast_S_S1024x8x128 (constant S_ .f32 0x3DB504F3#32))) bitsLt_bf16_f32) shapeCasts_S1024x8x128_S1024x1024 := by
  unfold V1 hostOps0
  after_results_simp_entrywise
  rfl
set_option maxHeartbeats 1000000 in
set_option maxRecDepth 16384 in
/-- The call's values are the device's heads of the program's, side by side. -/
theorem V1_v : V1 m c main_v23 = shapeCast S1024x1024 (truncf .bf16 (heads c (m ((c.tc : Thread nD τ).loc main_arg3))) bitsLt_bf16_f32) shapeCasts_S1024x8x128_S1024x1024 := by
  unfold V1 hostOps0
  after_results_simp_entrywise
  rfl

/-- The head that a column belongs to. -/
theorem hd_div (h : Fin 8) (d : Fin 128) : (⟨(hd h d).val / 128, by have := (hd h d).isLt; omega⟩ : Fin 8) = h := by
  apply Fin.ext; simp only [hd]; omega
/-- A column's place in its head. -/
theorem hd_mod (h : Fin 8) (d : Fin 128) : (⟨(hd h d).val % 128, Nat.mod_lt _ (by omega)⟩ : Fin 128) = d := by
  apply Fin.ext; simp only [hd]; omega

/-- Dropping the first axis, element by element. -/
theorem flat_apply (z : FVec Ideal S1x1024x1024 .f32) (i e : Fin 1024) : shapeCast S1024x1024 z shapeCasts_S1x1024x1024_S1024x1024 (ix2 i e) = z (ix3 0 i e) := by
  pointwise

/-- Each window of the call is its whole array. -/
theorem index_zero : ∀ w : Fin 6, ∀ a, (cfg0.win w).index t0_0 a = 0 := by decide +kernel

/-- The kernel's tokens are the call's. -/
theorem blocks_x : (blocks m c).x = V1 m c main_v5 := funext fun y =>
  congrArg (V1 m c main_v5) (funext fun a => Fin.ext (Window.rect_emb_val_of_index_zero (cfg0.win 0) t0_0 a (index_zero 0 a) y))
/-- The kernel's query weights are the call's. -/
theorem blocks_wq : (blocks m c).wq = V1 m c main_arg1 := funext fun y =>
  congrArg (V1 m c main_arg1) (funext fun a => Fin.ext (Window.rect_emb_val_of_index_zero (cfg0.win 1) t0_0 a (index_zero 1 a) y))
/-- The kernel's keys are the call's. -/
theorem blocks_k : (blocks m c).k = V1 m c main_v21 := funext fun y =>
  congrArg (V1 m c main_v21) (funext fun a => Fin.ext (Window.rect_emb_val_of_index_zero (cfg0.win 2) t0_0 a (index_zero 2 a) y))
/-- The kernel's values are the call's. -/
theorem blocks_v : (blocks m c).v = V1 m c main_v23 := funext fun y =>
  congrArg (V1 m c main_v23) (funext fun a => Fin.ext (Window.rect_emb_val_of_index_zero (cfg0.win 3) t0_0 a (index_zero 3 a) y))
/-- The kernel's output weights are the call's. -/
theorem blocks_wo : (blocks m c).wo = V1 m c main_arg4 := funext fun y =>
  congrArg (V1 m c main_arg4) (funext fun a => Fin.ext (Window.rect_emb_val_of_index_zero (cfg0.win 4) t0_0 a (index_zero 4 a) y))

/-- The call's result is the kernel's. -/
theorem res_val : res m c = outV (blocks m) :=
  (dat m c).arrAt_eq_of_after_last 5 t0_0 (by decide +kernel) (outV (blocks m)) (fun j => rfl)

set_option maxRecDepth 16384 in
/-- The program's result is the kernel's. -/
theorem result_val (i n : Fin 1024) : result m c (ix3 0 i n) = outV (blocks m) (ix2 i n) := by
  have e : V2 m (outs m) c main_v24 = res m c := (Function.update_self ..).trans (outs_v24 m 2 c)
  have e' : result m c = shapeCast S1x1024x1024 (V2 m (outs m) c main_v24) shapeCasts_S1024x1024_S1x1024x1024 := by
    unfold result V3 hostOps1
    after_results_simp
    rfl
  rw [e', e, res_val]
  generalize outV (blocks m) = z
  pointwise

section
variable {m} {D : Att.Input}
  (hx : ∀ i e, m ((c.tc : Thread nD τ).loc main_arg0) (ix3 0 i e) = (D.x i e : EReal))
  (hwq : ∀ e h d, m ((c.tc : Thread nD τ).loc main_arg1) (ix2 e (hd h d)) = (D.wq e (Att.col (Att.head c h) d) : EReal))
  (hk : ∀ j h d, m ((c.tc : Thread nD τ).loc main_arg2) (ix4 0 j h d) = (D.k j h d : EReal))
  (hv : ∀ j h d, m ((c.tc : Thread nD τ).loc main_arg3) (ix4 0 j h d) = D.v j h d)
  (hwo : ∀ h d n, m ((c.tc : Thread nD τ).loc main_arg4) (ix2 (hd h d) n) = D.wo (Att.col (Att.head c h) d) n)
  (hσ : Ideal.ofBits .f32 0x3DB504F3#32 = (D.σ : EReal))
include hx hwq hk hv hwo hσ

set_option maxRecDepth 16384 in
/-- The kernel is given the device's part of the data. -/
theorem holds : Holds D c (blocks m c) where
  x i e := by
    rw [blocks_x, V1_x, flat_apply]
    exact hx i e
  wq e h d := by
    rw [blocks_wq, V1_of m c main_arg1 (by decide)]
    exact hwq e h d
  k j h d := by
    rw [blocks_k, V1_k]
    pointwise
    rw [hd_div, hd_mod, heads_apply, hk, hσ]
  v j h d := by
    rw [blocks_v, V1_v]
    pointwise
    rw [hd_div, hd_mod, heads_apply, hv]
  wo h d n := by
    rw [blocks_wo, V1_of m c main_arg4 (by decide)]
    exact hwo h d n
end

end Cert.KernelIdealProof
-- ==== Proof.RVal.lean ====
module

public import proofs.«01_k».proof.Proof.Gen.ReferenceIdeal.Run
public import proofs.«01_k».proof.Proof.Math
public import Idealize.ShloMosaic.Lib.Routing.OpsOrder

@[expose] public section

noncomputable section

namespace Cert.ReferenceIdealProof

open Cert.ReferenceIdeal Cert.ReferenceIdeal.Gen Idealize.ShloMosaic Idealize.ShloMosaic.TcCoe Idealize.SL.Sem Idealize.ShloMosaic.StableHlo

/-! # The reference's value at real arithmetic, element by element -/

/-- The blocks of 64 that the 1024 positions lie in, as the program divides. -/
def blk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))
/-- Which keys each token sees. -/
def mask : IVec S1024x1024 1 :=
  cmpi .sle (broadcastInDim S1024x1024 ![0, 1] bcast_S1x1024_S1024x1024_0_1 (broadcastInDim S1x1024 ![1] bcast_S1024_S1x1024_1 blk))
    (broadcastInDim S1024x1024 ![0, 1] bcast_S1024x1_S1024x1024_0_1 (broadcastInDim S1024x1 ![0] bcast_S1024_S1024x1_0 blk))
/-- Which tokens see some key. -/
def rows : IVec S1024 1 := Host.reduce IntOp.ori mask (constantI S_ 1 0#1) reducesTo_S1024x1024_S1024_d1 h_S_

section
variable (x : FVec Ideal S1x1024x1024 .f32) (wq : FVec Ideal S1024x4096 .f32) (k v : FVec Ideal S1x1024x32x128 .f32) (wo : FVec Ideal S4096x1024 .f32)

/-- The queries, head by head. -/
def query : FVec Ideal S1x1024x32x128 .f32 :=
  shapeCast _ (Host.dotGeneral dot_S1x1024x1024_S1024x4096_S1x1024x4096_2_0_01_1_n_n none x wq) shapeCasts_S1x1024x4096_S1x1024x32x128
/-- The scaled scores. -/
def score : FVec Ideal S1x32x1024x1024 .f32 :=
  mulf (Host.dotGeneral dot_S1x1024x32x128_S1x1024x32x128_S1x32x1024x1024_3_3_1_1_02_02 none (query x wq) k)
    (broadcastInDim S1x32x1024x1024 ![] bcast_S_S1x32x1024x1024 (constant S_ .f32 0x3DB504F3#32))
/-- The masked scores. -/
def masked : FVec Ideal S1x32x1024x1024 .f32 :=
  select (broadcastInDim S1x32x1024x1024 ![0, 1, 2, 3] bcast_S1x1x1024x1024_S1x32x1024x1024_0_1_2_3 (broadcastInDim S1x1x1024x1024 ![2, 3] bcast_S1024x1024_S1x1x1024x1024_2_3 mask))
    (score x wq k) (broadcastInDim S1x32x1024x1024 ![] bcast_S_S1x32x1024x1024 (id (constant S_ .f32 0xFF800000#32)))
/-- The greatest masked score of each row. -/
def top : FVec Ideal S1x32x1024 .f32 :=
  Host.reduce FloatOps.maximumf (masked x wq k) (constant S_ .f32 0xFF800000#32) reducesTo_S1x32x1024x1024_S1x32x1024_d3 h_S_
/-- The exponentials of the shifted scores. -/
def expo : FVec Ideal S1x32x1024x1024 .f32 :=
  Host.exp (subf (masked x wq k) (broadcastInDim S1x32x1024x1024 ![0, 1, 2, 3] bcast_S1x32x1024x1_S1x32x1024x1024_0_1_2_3
    (broadcastInDim S1x32x1024x1 ![0, 1, 2] bcast_S1x32x1024_S1x32x1024x1_0_1_2 (top x wq k))))
/-- The sums they are divided by. -/
def total : FVec Ideal S1x32x1024x1 .f32 :=
  select (broadcastInDim S1x32x1024x1 ![0, 1, 2, 3] bcast_S1x1x1024x1_S1x32x1024x1_0_1_2_3 (broadcastInDim S1x1x1024x1 ![2] bcast_S1024_S1x1x1024x1_2 rows))
    (broadcastInDim S1x32x1024x1 ![0, 1, 2] bcast_S1x32x1024_S1x32x1024x1_0_1_2
      (Host.reduceAdd (expo x wq k) (constant S_ .f32 0x00000000#32) reducesTo_S1x32x1024x1024_S1x32x1024_d3 h_S_))
    (broadcastInDim S1x32x1024x1 ![] bcast_S_S1x32x1024x1 (id (constant S_ .f32 0x3F800000#32)))
/-- The normalised weights. -/
def prob : FVec Ideal S1x32x1024x1024 .f32 :=
  select (broadcastInDim S1x32x1024x1024 ![0, 1, 2, 3] bcast_S1x1x1024x1_S1x32x1024x1024_0_1_2_3 (broadcastInDim S1x1x1024x1 ![2] bcast_S1024_S1x1x1024x1_2 rows))
    (Host.divf (expo x wq k) (broadcastInDim S1x32x1024x1024 ![0, 1, 2, 3] bcast_S1x32x1024x1_S1x32x1024x1024_0_1_2_3 (total x wq k)))
    (broadcastInDim S1x32x1024x1024 ![] bcast_S_S1x32x1024x1024 (id (constant S_ .f32 0x00000000#32)))
/-- The heads' results side by side. -/
def ctx : FVec Ideal S1x1024x4096 .f32 :=
  shapeCast _ (transpose S1x1024x32x128 [0, 3, 1, 2]
    (Host.dotGeneral dot_S1x1024x32x128_S1x32x1024x1024_S1x32x128x1024_1_3_3_2_02_01 none v (prob x wq k)) transposes_S1x32x128x1024_S1x1024x32x128_0_3_1_2)
    shapeCasts_S1x1024x32x128_S1x1024x4096
/-- The result. -/
def res : FVec Ideal S1x1024x1024 .f32 := Host.dotGeneral dot_S1x1024x4096_S4096x1024_S1x1024x1024_2_0_01_1_n_n none (ctx x wq k v) wo

end

/-- The program's result is the one written in these steps. -/
theorem res_eq (m : (ℓ : Loc nD τ sig) → Buf (Elt Ideal) ℓ) (c : Dev nD) :
    Value.res_main_v33 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The mask -/

/-- The program's division by 64 is that of the naturals. -/
theorem blk_nat : ∀ i : Fin 1024, blk (ix1 i) = BitVec.ofNat 32 (i.val / 64) := by decide +kernel

/-- The comparison of two block numbers is that of the naturals. -/
theorem sle_nat : ∀ a b : Fin 16, IntOp.cmpi CmpIPredicate.sle (BitVec.ofNat 32 a.val) (BitVec.ofNat 32 b.val) = BitVec.ofBool (decide (a.val ≤ b.val)) := by decide +kernel

/-- The mask says which keys each token sees. -/
theorem mask_apply (i j : Fin 1024) : mask (ix2 i j) = BitVec.ofBool (decide (Att.Input.seen i j)) := by
  pointwise [mask]
  rw [blk_nat, blk_nat]
  exact sle_nat ⟨j.val / 64, by omega⟩ ⟨i.val / 64, by omega⟩

/-- Every token sees some key. -/
theorem rows_apply (i : Fin 1024) : rows (ix1 i) = 1#1 := by
  pointwise [rows]
  exact (Routing.fold_ori _ _).2 ⟨0, Finset.mem_univ _, by rw [mask_apply]; exact congrArg BitVec.ofBool (decide_eq_true (Nat.zero_le _ : Att.Input.seen i 0))⟩

/-- The word of minus infinity. -/
theorem bot_bits : Ideal.ofBits .f32 0xFF800000#32 = (⊥ : EReal) := by
  simp [Ideal.ofBits, Ideal.ieee]

section
variable {D : Att.Input} {x : FVec Ideal S1x1024x1024 .f32} {wq : FVec Ideal S1024x4096 .f32} {k v : FVec Ideal S1x1024x32x128 .f32} {wo : FVec Ideal S4096x1024 .f32}
  (hx : ∀ i e, x (ix3 0 i e) = (D.x i e : EReal)) (hwq : ∀ e n, wq (ix2 e n) = (D.wq e n : EReal)) (hk : ∀ j h d, k (ix4 0 j h d) = (D.k j h d : EReal))
  (hσ : Ideal.ofBits .f32 0x3DB504F3#32 = (D.σ : EReal))
include hx hwq

/-- The queries, element by element. -/
theorem query_apply (i : Fin 1024) (h : Fin 32) (d : Fin 128) : query x wq (ix4 0 i h d) = (D.query i h d : EReal) := by
  pointwise [query]
  simp only [hx, hwq]
  rw [Att.sum_prod]
  refine congrArg _ (Finset.sum_congr rfl fun e _ => congrArg (D.x i e * D.wq e ·) (Fin.ext ?_))
  show h.val * 128 + d.val = 128 * h.val + d.val
  omega

include hk hσ

/-- The scores, element by element. -/
theorem score_apply (i j : Fin 1024) (h : Fin 32) : score x wq k (ix4 0 h i j) = (D.score i h j : EReal) := by
  pointwise [score]
  simp only [query_apply hx hwq, hk, hσ]
  rw [Att.sum_prod _ (D.query i h) (D.k j h), ← EReal.coe_mul]
  rfl

/-- The masked scores, element by element. -/
theorem masked_apply (i j : Fin 1024) (h : Fin 32) : masked x wq k (ix4 0 h i j) = Att.masked (Att.Input.seen i) (D.score i h) j := by
  pointwise [masked]
  rw [score_apply hx hwq hk hσ, mask_apply, show id (constant (F := Ideal) S_ .f32 0xFF800000#32) ix0 = (⊥ : EReal) from bot_bits]
  unfold Att.masked Scalar.select
  by_cases hs : Att.Input.seen i j <;> simp [hs]

/-- The greatest masked score of each row. -/
theorem top_apply (i : Fin 1024) (h : Fin 32) : top x wq k (ix3 0 h i) = (Finset.univ : Finset (Fin 1024)).fold max ⊥ (Att.masked (Att.Input.seen i) (D.score i h)) := by
  pointwise [top]
  simp only [masked_apply hx hwq hk hσ, bot_bits]

/-- The exponentials, element by element. -/
theorem expo_apply (i j : Fin 1024) (h : Fin 32) : expo x wq k (ix4 0 h i j) = Ideal.exp (Att.masked (Att.Input.seen i) (D.score i h) j
    - (Finset.univ : Finset (Fin 1024)).fold max ⊥ (Att.masked (Att.Input.seen i) (D.score i h))) := by
  pointwise [expo]
  rw [masked_apply hx hwq hk hσ, top_apply hx hwq hk hσ]

/-- The divisor of a row is the sum of its exponentials. -/
theorem total_apply (i : Fin 1024) (h : Fin 32) : total x wq k (ix4 0 h i 0) = ∑ j, expo x wq k (ix4 0 h i j) := by
  pointwise [total]
  rw [rows_apply]
  exact if_pos rfl

/-- The normalised weights, element by element. -/
theorem prob_apply (i j : Fin 1024) (h : Fin 32) : prob x wq k (ix4 0 h i j) = Ideal.div (expo x wq k (ix4 0 h i j)) (total x wq k (ix4 0 h i 0)) := by
  pointwise [prob]
  rw [rows_apply]
  exact if_pos rfl

variable (hv : ∀ j h d, v (ix4 0 j h d) = D.v j h d)
include hv

/-- The heads' results, element by element. -/
theorem ctx_apply (i : Fin 1024) (e : Fin 4096) : ctx x wq k v (ix3 0 i e) = D.ctx i ⟨e.val / 128, by omega⟩ ⟨e.val % 128, Nat.mod_lt _ (by omega)⟩ := by
  pointwise [ctx]
  simp only [prob_apply hx hwq hk hσ, total_apply hx hwq hk hσ, expo_apply hx hwq hk hσ, hv]
  exact Att.softmax_row _ _ 0 (Nat.zero_le _) _

variable (hwo : ∀ e n, wo (ix2 e n) = D.wo e n)
include hwo

/-- The reference's result, element by element. -/
theorem res_apply (i n : Fin 1024) : res x wq k v wo (ix3 0 i n) = D.out i n := by
  pointwise [res]
  simp only [ctx_apply hx hwq hk hσ hv, hwo]
  rfl
end

end Cert.ReferenceIdealProof
-- ==== Proof.Alg.lean ====
module

public import proofs.«01_k».proof.Defs
public import proofs.«01_k».proof.Proof.Glue
public import proofs.«01_k».proof.Proof.RVal
public import Idealize.ShloMosaic.Lib.Layout

@[expose] public section

noncomputable section

namespace Cert.Alg

open Idealize.ShloMosaic Idealize.ShloMosaic.TcCoe Idealize.SL.Sem

/-! # The kernel computes the reference's value at real arithmetic -/

/-- The side conditions of the precondition over the kernel's arguments. -/
theorem preK : Cert.Pre_finite_KernelIdeal.Facts := ⟨by decide, by decide, by decide⟩
/-- The side conditions of the precondition over the reference's arguments. -/
theorem preR : Cert.Pre_finite_ReferenceIdeal.Facts := ⟨by decide, by decide, by decide⟩

/-- The scores' scale is a real. -/
theorem scale_real : ∃ σ : ℝ, Ideal.ofBits .f32 0x3DB504F3#32 = (σ : EReal) := by
  simp only [Ideal.ofBits, Ideal.ieee]
  simp
  exact ⟨_, (EReal.coe_mul _ _).symm⟩

/-- The word of plus infinity. -/
theorem top_bits : Ideal.ofBits .f32 0x7F800000#32 = (⊤ : EReal) := by
  simp [Ideal.ofBits, Ideal.ieee]

/-- A number below plus infinity and above minus infinity is a real. -/
theorem real_of_cmp (a : EReal)
    (h : IntOp.andi (FloatOps.cmpf (F := Ideal) (φ := .f32) .olt a (Ideal.ofBits .f32 0x7F800000#32)) (FloatOps.cmpf (F := Ideal) (φ := .f32) .ogt a (Ideal.ofBits .f32 0xFF800000#32)) = 1#1) :
    ((a.toReal : ℝ) : EReal) = a := by
  rw [top_bits, Cert.ReferenceIdealProof.bot_bits] at h
  refine EReal.coe_toReal (fun e => ?_) fun e => ?_
  · rw [e] at h
    simp [FloatOps.cmpf, Ideal.cmp, IntOp.andi] at h
  · rw [e] at h
    simp [FloatOps.cmpf, Ideal.cmp, IntOp.andi] at h

/-- Where column `l` of device `c`'s part of the query projection is in the whole. -/
theorem col_at (h : Layout.Tiles ⟨2, ![1024, 1024]⟩ ⟨2, ![1024, 4096]⟩ 1 4) (c : Fin 4) (e l : Fin 1024) :
    h.idx c (ix2 e l) = ix2 e (⟨c.val * 1024 + l.val, by omega⟩ : Fin 4096) := by
  funext a
  match a with
  | ⟨0, _⟩ => rfl
  | ⟨1, _⟩ => rfl
/-- Where row `l` of device `c`'s part of the output projection is in the whole. -/
theorem row_at (h : Layout.Tiles ⟨2, ![1024, 1024]⟩ ⟨2, ![4096, 1024]⟩ 0 4) (c : Fin 4) (l n : Fin 1024) :
    h.idx c (ix2 l n) = ix2 (⟨c.val * 1024 + l.val, by omega⟩ : Fin 4096) n := by
  funext a
  match a with
  | ⟨0, _⟩ => rfl
  | ⟨1, _⟩ => rfl

/-- Under the precondition the tokens, the device's columns of the query projection and the keys are reals. -/
theorem finite_val (x : FVec Ideal Cert.KernelIdeal.S1x1024x1024 .f32) (wq : FVec Ideal Cert.KernelIdeal.S1024x1024 .f32) (k v : FVec Ideal Cert.KernelIdeal.S1x1024x32x128 .f32) (wo : FVec Ideal Cert.KernelIdeal.S1024x1024 .f32)
    (h : letI := preK; (Cert.Pre_finite_KernelIdeal.fn (F := Ideal) x wq k v wo).1 = (fun _ => 1#1) ∧ (Cert.Pre_finite_KernelIdeal.fn (F := Ideal) x wq k v wo).2.1 = (fun _ => 1#1)
      ∧ (Cert.Pre_finite_KernelIdeal.fn (F := Ideal) x wq k v wo).2.2 = (fun _ => 1#1)) :
    (∀ i, (((x i : EReal).toReal : ℝ) : EReal) = x i) ∧ (∀ i, (((wq i : EReal).toReal : ℝ) : EReal) = wq i) ∧ (∀ i, (((k i : EReal).toReal : ℝ) : EReal) = k i) :=
  ⟨fun i => real_of_cmp _ (congrFun h.1 i), fun i => real_of_cmp _ (congrFun h.2.1 i), fun i => real_of_cmp _ (congrFun h.2.2 i)⟩

/-- The reference's arguments as the data of the attention. -/
def data (x : FVec Ideal Cert.ReferenceIdeal.S1x1024x1024 .f32) (wq : FVec Ideal Cert.ReferenceIdeal.S1024x4096 .f32) (k v : FVec Ideal Cert.ReferenceIdeal.S1x1024x32x128 .f32) (wo : FVec Ideal Cert.ReferenceIdeal.S4096x1024 .f32) : Att.Input where
  x i e := (x (ix3 0 i e) : EReal).toReal
  wq e n := (wq (ix2 e n) : EReal).toReal
  k j h d := (k (ix4 0 j h d) : EReal).toReal
  v j h d := v (ix4 0 j h d)
  wo e n := wo (ix2 e n)
  σ := scale_real.choose

/-- From arguments the precondition holds of, cut as the devices hold them, the kernel's result on every device is the reference's. -/
theorem algebraic : Cert.algebraic_KernelIdeal_ReferenceIdeal_pre_finite_KernelIdeal (hKernelIdeal := Cert.KernelIdeal.Gen.facts) (hReferenceIdeal := Cert.ReferenceIdeal.Gen.facts) (hPre_finite_KernelIdeal := preK) := by
  intro m g m' g' hpre hargs
  have hx0 := fun c => (hargs c).1
  have hwq0 := fun c => (hargs c).2.1
  have hk0 := fun c => (hargs c).2.2.1
  have hv0 := fun c => (hargs c).2.2.2.1
  have hwo0 := fun c => (hargs c).2.2.2.2
  generalize e0 : m' (((0 : Dev Cert.ReferenceIdeal.nD).tc : Thread Cert.ReferenceIdeal.nD Cert.ReferenceIdeal.τ).loc Cert.ReferenceIdeal.main_arg0) = x at hx0
  generalize e1 : m' (((0 : Dev Cert.ReferenceIdeal.nD).tc : Thread Cert.ReferenceIdeal.nD Cert.ReferenceIdeal.τ).loc Cert.ReferenceIdeal.main_arg1) = wq at hwq0
  generalize e2 : m' (((0 : Dev Cert.ReferenceIdeal.nD).tc : Thread Cert.ReferenceIdeal.nD Cert.ReferenceIdeal.τ).loc Cert.ReferenceIdeal.main_arg2) = k at hk0
  generalize e3 : m' (((0 : Dev Cert.ReferenceIdeal.nD).tc : Thread Cert.ReferenceIdeal.nD Cert.ReferenceIdeal.τ).loc Cert.ReferenceIdeal.main_arg3) = v at hv0
  generalize e4 : m' (((0 : Dev Cert.ReferenceIdeal.nD).tc : Thread Cert.ReferenceIdeal.nD Cert.ReferenceIdeal.τ).loc Cert.ReferenceIdeal.main_arg4) = wo at hwo0
  have hσ : Ideal.ofBits .f32 0x3DB504F3#32 = ((data x wq k v wo).σ : EReal) := scale_real.choose_spec
  have fin := fun c => finite_val _ _ _ _ _ (hpre c)
  have hx : ∀ i e, x (ix3 0 i e) = ((data x wq k v wo).x i e : EReal) := fun i e => by
    have h := (fin 0).1 (ix3 0 i e)
    rw [hx0 0] at h
    exact h.symm
  have hk : ∀ j h d, k (ix4 0 j h d) = ((data x wq k v wo).k j h d : EReal) := fun j h d => by
    have h' := (fin 0).2.2 (ix4 0 j h d)
    rw [hk0 0] at h'
    exact h'.symm
  have hwq : ∀ e n, wq (ix2 e n) = ((data x wq k v wo).wq e n : EReal) := fun e n => by
    have h := (fin ⟨n.val / 1024, by have := n.isLt; show _ < 4; omega⟩).2.1 (ix2 e ⟨n.val % 1024, Nat.mod_lt _ (by omega)⟩)
    rw [hwq0, Layout.block_apply, col_at] at h
    have hn : (⟨n.val / 1024 * 1024 + n.val % 1024, by omega⟩ : Fin 4096) = n := Fin.ext (by show n.val / 1024 * 1024 + n.val % 1024 = n.val; omega)
    rw [show (ix2 e (⟨n.val / 1024 * 1024 + n.val % 1024, by omega⟩ : Fin 4096)) = ix2 e n from by rw [hn]] at h
    exact h.symm
  have hcol : ∀ (c : Fin 4) (h : Fin 8) (d : Fin 128) p, (⟨c.val * 1024 + (Cert.KernelIdealProof.hd h d).val, p⟩ : Fin 4096) = Att.col (Att.head c h) d := fun c h d p =>
    Fin.ext (by simp only [Cert.KernelIdealProof.hd, Att.col, Att.head]; omega)
  have H : ∀ c, Cert.KernelIdealProof.Holds (data x wq k v wo) c (Cert.KernelIdealProof.blocks m c) := fun c =>
    Cert.KernelIdealProof.holds c (fun i e => by rw [hx0 c]; exact hx i e)
      (fun e h d => by rw [hwq0 c, Layout.block_apply, col_at, hcol]; exact hwq _ _)
      (fun j h d => by rw [hk0 c]; exact hk j h d) (fun j h d => by rw [hv0 c]; rfl)
      (fun h d n => by rw [hwo0 c, Layout.block_apply, row_at, hcol]; rfl) hσ
  refine ⟨Cert.ReferenceIdeal.Value.res_main_v33 m' 0, ?_, ?_⟩
  · refine (θ_run _ _ _).mono (fun r h c => ?_) (Cert.KernelIdealProof.run_main (F := Ideal) m g)
    obtain ⟨h0, h1, h2, h3, h4, h5⟩ := h.1 c
    refine ⟨h5.trans ?_, h0, h1, h2, h3, h4⟩
    funext y
    idx_vars y
    obtain rfl : y0 = 0 := Subsingleton.elim _ _
    rw [Cert.KernelIdealProof.result_val, Cert.KernelIdealProof.outV_val H, Cert.ReferenceIdealProof.res_eq]
    rw [e0, e1, e2, e3, e4]
    exact (Cert.ReferenceIdealProof.res_apply hx hwq hk hσ (fun _ _ _ => rfl) (fun _ _ => rfl) y1 y2).symm
  · subst e0 e1 e2 e3 e4
    refine (θ_run _ _ _).mono (fun r h => h 0) (Cert.ReferenceIdeal.Value.run (F := Ideal) m' g')

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Alg.preK, Cert.Alg.preR,
  Cert.Frames.frame_kernel, Cert.Frames.frame_ideal, fun m ρ _ => Cert.Frames.frame_ideal m ρ trivial,
  Cert.Frames.frame_reference, fun m ρ _ => Cert.Frames.frame_reference m ρ trivial, Cert.Frames.preserves, Cert.Alg.algebraic⟩

end Cert.Proof

end
